-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_on_clip_idle [hKernelIdeal : Cert.KernelIdeal.Facts] [hReferenceIdeal : Cert.ReferenceIdeal.Facts] [hOn_clip_idle : Cert.On_clip_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 1024]⟩ : Shape).Idx, (Cert.On_clip_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 1024]⟩ : Shape).Idx, (Cert.On_clip_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![256, 1024]⟩ ⟨2, ![1024, 1024]⟩ 0 4 c (m' (((0 : Dev Cert.SiluIdeal.nD).tc : Thread Cert.SiluIdeal.nD Cert.SiluIdeal.τ).loc Cert.SiluIdeal.main_arg1))) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_clip_idle : Cert.On_clip_idle.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_ReferenceIdeal_on_clip_idle (hKernelIdeal := hKernelIdeal) (hReferenceIdeal := hReferenceIdeal) (hOn_clip_idle := hOn_clip_idle)
    ∧ algebraic_KernelIdeal_SiluIdeal (hKernelIdeal := hKernelIdeal) (hSiluIdeal := hSiluIdeal)
-- ==== On_clip_idle.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .f32) (main_arg1 : FVec F S1024x1024 .f32) : IVec S1024x1024 1 :=
  let main_v0 : FVec F S1024x1024 .f32 := (fun l r => Host.dotGeneral dot_S1024x1024_S1024x1024_S1024x1024_1_0_0_1_n_n none l r) main_arg0 main_arg1
  let main_v1 : FVec F S1024x1024 .f32 := Host.absf main_v0
  let main_cst : FVec F S_ .f32 := constant S_ .f32 0x42700000#32
  let main_v2 : FVec F S1024x1024 .f32 := broadcastInDim S1024x1024 ![] bcast_S_S1024x1024 main_cst
  let main_v3 : IVec S1024x1024 1 := cmpf .ole main_v1 main_v2
  main_v3
-- ==== Kernel.lean ====
abbrev S1024x256 : Shape := ⟨2, ![1024, 256]⟩
abbrev S256x1024 : Shape := ⟨2, ![256, 1024]⟩
abbrev S1024x1024 : Shape := ⟨2, ![1024, 1024]⟩
abbrev S6x256x512 : Shape := ⟨3, ![6, 256, 512]⟩
abbrev S24 : Shape := ⟨1, ![24]⟩
abbrev S_ : Shape := ⟨0, ![]⟩
abbrev S256x256 : Shape := ⟨2, ![256, 256]⟩
abbrev S64x512 : Shape := ⟨2, ![64, 512]⟩
abbrev S1x64x512 : Shape := ⟨3, ![1, 64, 512]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S1024x256, .f32⟩
  | .hbm, ⟨1, _⟩ => ⟨S256x1024, .f32⟩
  | .hbm, ⟨2, _⟩ => ⟨S1024x1024, .f32⟩
  | .local _ .vmem, ⟨0, _⟩ => ⟨S1024x256, .f32⟩
  | .local _ .vmem, ⟨1, _⟩ => ⟨S256x1024, .f32⟩
  | .local _ .vmem, ⟨2, _⟩ => ⟨S1024x1024, .f32⟩
  | .local _ .vmem, ⟨3, _⟩ => ⟨S6x256x512, .bf16⟩
  | .local _ .vmem, ⟨4, _⟩ => ⟨S6x256x512, .bf16⟩
  | .local _ .vmem, ⟨5, _⟩ => ⟨S6x256x512, .bf16⟩
  | .local _ .vmem, ⟨6, _⟩ => ⟨S6x256x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v13 : BitVec 32 := Scalar.muli v2 c256_i32
  let v14 : Index := Scalar.indexCast v13
  let c0 : Index := 0#32
  ![v14.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v13 : BitVec 32 := Scalar.muli v2 c256_i32
  let v20 : Index := Scalar.indexCast v13
  let c0_12 : Index := 0#32
  ![v20.toNat, 0]
def k0_off3 (d0 : Dev nD) (c0_i32_14 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_13 : BitVec 32 := 256#32
  let v22 : BitVec 32 := Scalar.muli v2 c256_i32_13
  let v23 : BitVec 32 := Scalar.addi v22 c0_i32_14
  let v24 : Index := Scalar.indexCast v23
  let c0_15 : Index := 0#32
  ![v24.toNat, 0]
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_23 : BitVec 32 := 1#32
  let v31 : BitVec 32 := Scalar.muli v7 c1_i32_23
  let v32 : BitVec 32 := Scalar.addi c0_i32_24 v31
  v32.toNat
def k0_off4 (d0 : Dev nD) (c0_i32_30 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_29 : BitVec 32 := 256#32
  let v41 : BitVec 32 := Scalar.muli v2 c256_i32_29
  let v42 : BitVec 32 := Scalar.addi v41 c0_i32_30
  let v43 : Index := Scalar.indexCast v42
  let c512 : Index := 512#32
  ![v43.toNat, 512]
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_38 : BitVec 32 := 1#32
  let v50 : BitVec 32 := Scalar.muli v5 c1_i32_38
  let v51 : BitVec 32 := Scalar.addi c0_i32_39 v50
  v51.toNat
def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_52 : BitVec 32 := 1#32
  let v69 : BitVec 32 := Scalar.muli v7 c1_i32_52
  let v70 : BitVec 32 := Scalar.addi c0_i32_53 v69
  v70.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_68 : BitVec 32 := 1#32
  let v88 : BitVec 32 := Scalar.muli v5 c1_i32_68
  let v89 : BitVec 32 := Scalar.addi c0_i32_69 v88
  v89.toNat
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_82 : BitVec 32 := 1#32
  let v107 : BitVec 32 := Scalar.muli v7 c1_i32_82
  let v108 : BitVec 32 := Scalar.addi c0_i32_83 v107
  v108.toNat
def k0_dev8 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_98 : BitVec 32 := 1#32
  let v126 : BitVec 32 := Scalar.muli v5 c1_i32_98
  let v127 : BitVec 32 := Scalar.addi c0_i32_99 v126
  v127.toNat
def k0_dev9 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_111 : BitVec 32 := 1#32
  let v145 : BitVec 32 := Scalar.muli v7 c1_i32_111
  let v146 : BitVec 32 := Scalar.addi c0_i32_112 v145
  v146.toNat
def k0_dev10 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_127 : BitVec 32 := 1#32
  let v164 : BitVec 32 := Scalar.muli v5 c1_i32_127
  let v165 : BitVec 32 := Scalar.addi c0_i32_128 v164
  v165.toNat
def k0_off5 (d0 : Dev nD) (c1_i32_133 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v174 : BitVec 32 := Scalar.addi v2 c1_i32_133
  let c4_i32_134 : BitVec 32 := 4#32
  let v175 : BitVec 32 := Scalar.remsi v174 c4_i32_134
  let c256_i32_135 : BitVec 32 := 256#32
  let v176 : BitVec 32 := Scalar.muli v175 c256_i32_135
  let v177 : Index := Scalar.indexCast v176
  let c0_136 : Index := 0#32
  ![v177.toNat, 0]
def k0_off6 (d0 : Dev nD) (c1_i32_133 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v174 : BitVec 32 := Scalar.addi v2 c1_i32_133
  let c4_i32_134 : BitVec 32 := 4#32
  let v175 : BitVec 32 := Scalar.remsi v174 c4_i32_134
  let c256_i32_135 : BitVec 32 := 256#32
  let v176 : BitVec 32 := Scalar.muli v175 c256_i32_135
  let v183 : Index := Scalar.indexCast v176
  let c0_140 : Index := 0#32
  ![v183.toNat, 0]
def k0_off7 (d0 : Dev nD) (c_m1_i32 : BitVec 32) (c0_i32_160 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v207 : BitVec 32 := Scalar.addi v2 c_m1_i32
  let c4_i32_157 : BitVec 32 := 4#32
  let v208 : BitVec 32 := Scalar.addi v207 c4_i32_157
  let c4_i32_158 : BitVec 32 := 4#32
  let v209 : BitVec 32 := Scalar.remsi v208 c4_i32_158
  let c256_i32_159 : BitVec 32 := 256#32
  let v210 : BitVec 32 := Scalar.muli v209 c256_i32_159
  let v211 : BitVec 32 := Scalar.addi v210 c0_i32_160
  let v220 : Index := Scalar.indexCast v211
  let c0_171 : Index := 0#32
  ![v220.toNat, 0]
def k0_off7_at (r : Fin 12) : BitVec 32 × BitVec 32 :=
  if r.val < 6 then
    if r.val < 3 then
      if r.val < 1 then
        (4294967295#32, 0#32)
      else
        if r.val < 2 then
          (4294967295#32, 64#32)
        else
          (4294967295#32, 128#32)
    else
      if r.val < 4 then
        (4294967295#32, 192#32)
      else
        if r.val < 5 then
          (4294967294#32, 0#32)
        else
          (4294967294#32, 64#32)
  else
    if r.val < 9 then
      if r.val < 7 then
        (4294967294#32, 128#32)
      else
        if r.val < 8 then
          (4294967294#32, 192#32)
        else
          (0#32, 0#32)
    else
      if r.val < 10 then
        (0#32, 64#32)
      else
        if r.val < 11 then
          (0#32, 128#32)
        else
          (0#32, 192#32)
def k0_dev11 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_182 : BitVec 32 := 1#32
  let v233 : BitVec 32 := Scalar.muli v7 c1_i32_182
  let v234 : BitVec 32 := Scalar.addi c0_i32_183 v233
  v234.toNat
def k0_off8 (d0 : Dev nD) (c1_i32_188 : BitVec 32) (c0_i32_192 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v243 : BitVec 32 := Scalar.addi v2 c1_i32_188
  let c4_i32_189 : BitVec 32 := 4#32
  let v244 : BitVec 32 := Scalar.addi v243 c4_i32_189
  let c4_i32_190 : BitVec 32 := 4#32
  let v245 : BitVec 32 := Scalar.remsi v244 c4_i32_190
  let c256_i32_191 : BitVec 32 := 256#32
  let v246 : BitVec 32 := Scalar.muli v245 c256_i32_191
  let v247 : BitVec 32 := Scalar.addi v246 c0_i32_192
  let v256 : Index := Scalar.indexCast v247
  let c512_203 : Index := 512#32
  ![v256.toNat, 512]
def k0_dev12 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_215 : BitVec 32 := 1#32
  let v269 : BitVec 32 := Scalar.muli v5 c1_i32_215
  let v270 : BitVec 32 := Scalar.addi c0_i32_216 v269
  v270.toNat
def k0_dev13 (d0 : Dev nD) : Nat :=
  let c0_i32_248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_247 : BitVec 32 := 1#32
  let v305 : BitVec 32 := Scalar.muli v7 c1_i32_247
  let v306 : BitVec 32 := Scalar.addi c0_i32_248 v305
  v306.toNat
def k0_dev14 (d0 : Dev nD) : Nat :=
  let c0_i32_281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_280 : BitVec 32 := 1#32
  let v341 : BitVec 32 := Scalar.muli v5 c1_i32_280
  let v342 : BitVec 32 := Scalar.addi c0_i32_281 v341
  v342.toNat
def k0_dev15 (d0 : Dev nD) : Nat :=
  let c0_i32_313 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_312 : BitVec 32 := 1#32
  let v377 : BitVec 32 := Scalar.muli v7 c1_i32_312
  let v378 : BitVec 32 := Scalar.addi c0_i32_313 v377
  v378.toNat
def k0_dev16 (d0 : Dev nD) : Nat :=
  let c0_i32_346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_345 : BitVec 32 := 1#32
  let v413 : BitVec 32 := Scalar.muli v5 c1_i32_345
  let v414 : BitVec 32 := Scalar.addi c0_i32_346 v413
  v414.toNat
def k0_dev17 (d0 : Dev nD) : Nat :=
  let c0_i32_378 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_377 : BitVec 32 := 1#32
  let v449 : BitVec 32 := Scalar.muli v7 c1_i32_377
  let v450 : BitVec 32 := Scalar.addi c0_i32_378 v449
  v450.toNat
def k0_dev18 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_410 : BitVec 32 := 1#32
  let v485 : BitVec 32 := Scalar.muli v5 c1_i32_410
  let v486 : BitVec 32 := Scalar.addi c0_i32_411 v485
  v486.toNat
def k0_dev19 (d0 : Dev nD) : Nat :=
  let c0_i32_441 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_440 : BitVec 32 := 1#32
  let v521 : BitVec 32 := Scalar.muli v7 c1_i32_440
  let v522 : BitVec 32 := Scalar.addi c0_i32_441 v521
  v522.toNat
def k0_dev20 (d0 : Dev nD) : Nat :=
  let c0_i32_474 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_473 : BitVec 32 := 1#32
  let v557 : BitVec 32 := Scalar.muli v5 c1_i32_473
  let v558 : BitVec 32 := Scalar.addi c0_i32_474 v557
  v558.toNat
def k0_dev21 (d0 : Dev nD) : Nat :=
  let c0_i32_506 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_505 : BitVec 32 := 1#32
  let v593 : BitVec 32 := Scalar.muli v7 c1_i32_505
  let v594 : BitVec 32 := Scalar.addi c0_i32_506 v593
  v594.toNat
def k0_dev22 (d0 : Dev nD) : Nat :=
  let c0_i32_539 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_538 : BitVec 32 := 1#32
  let v629 : BitVec 32 := Scalar.muli v5 c1_i32_538
  let v630 : BitVec 32 := Scalar.addi c0_i32_539 v629
  v630.toNat
def k0_dev23 (d0 : Dev nD) : Nat :=
  let c0_i32_571 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_570 : BitVec 32 := 1#32
  let v665 : BitVec 32 := Scalar.muli v7 c1_i32_570
  let v666 : BitVec 32 := Scalar.addi c0_i32_571 v665
  v666.toNat
def k0_dev24 (d0 : Dev nD) : Nat :=
  let c0_i32_604 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_603 : BitVec 32 := 1#32
  let v701 : BitVec 32 := Scalar.muli v5 c1_i32_603
  let v702 : BitVec 32 := Scalar.addi c0_i32_604 v701
  v702.toNat
def k0_dev25 (d0 : Dev nD) : Nat :=
  let c0_i32_636 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_635 : BitVec 32 := 1#32
  let v737 : BitVec 32 := Scalar.muli v7 c1_i32_635
  let v738 : BitVec 32 := Scalar.addi c0_i32_636 v737
  v738.toNat
def k0_dev26 (d0 : Dev nD) : Nat :=
  let c0_i32_669 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_668 : BitVec 32 := 1#32
  let v773 : BitVec 32 := Scalar.muli v5 c1_i32_668
  let v774 : BitVec 32 := Scalar.addi c0_i32_669 v773
  v774.toNat
def k0_off9 (d0 : Dev nD) (c0_i32_678 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_674 : BitVec 32 := 4294967295#32
  let v783 : BitVec 32 := Scalar.subi v2 c_m1_i32_674
  let c4_i32_675 : BitVec 32 := 4#32
  let v784 : BitVec 32 := Scalar.addi v783 c4_i32_675
  let c4_i32_676 : BitVec 32 := 4#32
  let v785 : BitVec 32 := Scalar.remsi v784 c4_i32_676
  let c256_i32_677 : BitVec 32 := 256#32
  let v786 : BitVec 32 := Scalar.muli v785 c256_i32_677
  let v787 : BitVec 32 := Scalar.addi v786 c0_i32_678
  let v796 : Index := Scalar.indexCast v787
  let c0_689 : Index := 0#32
  ![v796.toNat, 0]
def k0_dev27 (d0 : Dev nD) : Nat :=
  let c0_i32_700 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_699 : BitVec 32 := 1#32
  let v811 : BitVec 32 := Scalar.muli v7 c1_i32_699
  let v812 : BitVec 32 := Scalar.addi c0_i32_700 v811
  v812.toNat
def k0_off10 (d0 : Dev nD) (c0_i32_709 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_705 : BitVec 32 := 1#32
  let v821 : BitVec 32 := Scalar.subi v2 c1_i32_705
  let c4_i32_706 : BitVec 32 := 4#32
  let v822 : BitVec 32 := Scalar.addi v821 c4_i32_706
  let c4_i32_707 : BitVec 32 := 4#32
  let v823 : BitVec 32 := Scalar.remsi v822 c4_i32_707
  let c256_i32_708 : BitVec 32 := 256#32
  let v824 : BitVec 32 := Scalar.muli v823 c256_i32_708
  let v825 : BitVec 32 := Scalar.addi v824 c0_i32_709
  let v834 : Index := Scalar.indexCast v825
  let c512_720 : Index := 512#32
  ![v834.toNat, 512]
def k0_dev28 (d0 : Dev nD) : Nat :=
  let c0_i32_733 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_732 : BitVec 32 := 1#32
  let v849 : BitVec 32 := Scalar.muli v5 c1_i32_732
  let v850 : BitVec 32 := Scalar.addi c0_i32_733 v849
  v850.toNat
def k0_dev29 (d0 : Dev nD) : Nat :=
  let c0_i32_765 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_764 : BitVec 32 := 1#32
  let v887 : BitVec 32 := Scalar.muli v7 c1_i32_764
  let v888 : BitVec 32 := Scalar.addi c0_i32_765 v887
  v888.toNat
def k0_dev30 (d0 : Dev nD) : Nat :=
  let c0_i32_798 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_797 : BitVec 32 := 1#32
  let v925 : BitVec 32 := Scalar.muli v5 c1_i32_797
  let v926 : BitVec 32 := Scalar.addi c0_i32_798 v925
  v926.toNat
def k0_dev31 (d0 : Dev nD) : Nat :=
  let c0_i32_830 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_829 : BitVec 32 := 1#32
  let v963 : BitVec 32 := Scalar.muli v7 c1_i32_829
  let v964 : BitVec 32 := Scalar.addi c0_i32_830 v963
  v964.toNat
def k0_dev32 (d0 : Dev nD) : Nat :=
  let c0_i32_863 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_862 : BitVec 32 := 1#32
  let v1001 : BitVec 32 := Scalar.muli v5 c1_i32_862
  let v1002 : BitVec 32 := Scalar.addi c0_i32_863 v1001
  v1002.toNat
def k0_dev33 (d0 : Dev nD) : Nat :=
  let c0_i32_895 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_894 : BitVec 32 := 1#32
  let v1039 : BitVec 32 := Scalar.muli v7 c1_i32_894
  let v1040 : BitVec 32 := Scalar.addi c0_i32_895 v1039
  v1040.toNat
def k0_dev34 (d0 : Dev nD) : Nat :=
  let c0_i32_928 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_927 : BitVec 32 := 1#32
  let v1077 : BitVec 32 := Scalar.muli v5 c1_i32_927
  let v1078 : BitVec 32 := Scalar.addi c0_i32_928 v1077
  v1078.toNat
def k0_dev35 (d0 : Dev nD) : Nat :=
  let c0_i32_950 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_949 : BitVec 32 := 1#32
  let v1098 : BitVec 32 := Scalar.muli v7 c1_i32_949
  let v1099 : BitVec 32 := Scalar.addi c0_i32_950 v1098
  v1099.toNat
def k0_dev36 (d0 : Dev nD) : Nat :=
  let c0_i32_979 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_978 : BitVec 32 := 1#32
  let v1126 : BitVec 32 := Scalar.muli v5 c1_i32_978
  let v1127 : BitVec 32 := Scalar.addi c0_i32_979 v1126
  v1127.toNat
def k0_dev37 (d0 : Dev nD) : Nat :=
  let c0_i32_1007 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1006 : BitVec 32 := 1#32
  let v1154 : BitVec 32 := Scalar.muli v7 c1_i32_1006
  let v1155 : BitVec 32 := Scalar.addi c0_i32_1007 v1154
  v1155.toNat
def k0_dev38 (d0 : Dev nD) : Nat :=
  let c0_i32_1036 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1035 : BitVec 32 := 1#32
  let v1182 : BitVec 32 := Scalar.muli v5 c1_i32_1035
  let v1183 : BitVec 32 := Scalar.addi c0_i32_1036 v1182
  v1183.toNat
def k0_dev39 (d0 : Dev nD) : Nat :=
  let c0_i32_1064 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1063 : BitVec 32 := 1#32
  let v1210 : BitVec 32 := Scalar.muli v7 c1_i32_1063
  let v1211 : BitVec 32 := Scalar.addi c0_i32_1064 v1210
  v1211.toNat
def k0_dev40 (d0 : Dev nD) : Nat :=
  let c0_i32_1093 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1092 : BitVec 32 := 1#32
  let v1238 : BitVec 32 := Scalar.muli v5 c1_i32_1092
  let v1239 : BitVec 32 := Scalar.addi c0_i32_1093 v1238
  v1239.toNat
def k0_dev41 (d0 : Dev nD) : Nat :=
  let c0_i32_1121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1120 : BitVec 32 := 1#32
  let v1266 : BitVec 32 := Scalar.muli v7 c1_i32_1120
  let v1267 : BitVec 32 := Scalar.addi c0_i32_1121 v1266
  v1267.toNat
def k0_dev42 (d0 : Dev nD) : Nat :=
  let c0_i32_1150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1149 : BitVec 32 := 1#32
  let v1294 : BitVec 32 := Scalar.muli v5 c1_i32_1149
  let v1295 : BitVec 32 := Scalar.addi c0_i32_1150 v1294
  v1295.toNat
def k0_dev43 (d0 : Dev nD) : Nat :=
  let c0_i32_1178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1177 : BitVec 32 := 1#32
  let v1322 : BitVec 32 := Scalar.muli v7 c1_i32_1177
  let v1323 : BitVec 32 := Scalar.addi c0_i32_1178 v1322
  v1323.toNat
def k0_dev44 (d0 : Dev nD) : Nat :=
  let c0_i32_1206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1205 : BitVec 32 := 1#32
  let v1350 : BitVec 32 := Scalar.muli v5 c1_i32_1205
  let v1351 : BitVec 32 := Scalar.addi c0_i32_1206 v1350
  v1351.toNat
def k0_dev45 (d0 : Dev nD) : Nat :=
  let c0_i32_1234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1233 : BitVec 32 := 1#32
  let v1378 : BitVec 32 := Scalar.muli v7 c1_i32_1233
  let v1379 : BitVec 32 := Scalar.addi c0_i32_1234 v1378
  v1379.toNat
def k0_dev46 (d0 : Dev nD) : Nat :=
  let c0_i32_1263 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1262 : BitVec 32 := 1#32
  let v1406 : BitVec 32 := Scalar.muli v5 c1_i32_1262
  let v1407 : BitVec 32 := Scalar.addi c0_i32_1263 v1406
  v1407.toNat
def k0_dev47 (d0 : Dev nD) : Nat :=
  let c0_i32_1291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1290 : BitVec 32 := 1#32
  let v1434 : BitVec 32 := Scalar.muli v7 c1_i32_1290
  let v1435 : BitVec 32 := Scalar.addi c0_i32_1291 v1434
  v1435.toNat
def k0_dev48 (d0 : Dev nD) : Nat :=
  let c0_i32_1320 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1319 : BitVec 32 := 1#32
  let v1462 : BitVec 32 := Scalar.muli v5 c1_i32_1319
  let v1463 : BitVec 32 := Scalar.addi c0_i32_1320 v1462
  v1463.toNat
def k0_dev49 (d0 : Dev nD) : Nat :=
  let c0_i32_1348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1347 : BitVec 32 := 1#32
  let v1490 : BitVec 32 := Scalar.muli v7 c1_i32_1347
  let v1491 : BitVec 32 := Scalar.addi c0_i32_1348 v1490
  v1491.toNat
def k0_dev50 (d0 : Dev nD) : Nat :=
  let c0_i32_1377 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1376 : BitVec 32 := 1#32
  let v1518 : BitVec 32 := Scalar.muli v5 c1_i32_1376
  let v1519 : BitVec 32 := Scalar.addi c0_i32_1377 v1518
  v1519.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Text.lean ====
/-
The kernel's text as eight interleaved lanes.

A lane is a direction (`false` = to the right neighbour, `true` = to the left) and one of the four blocks of 64 rows.
The printed body is one flat sequence of operations; here it is put together from one small program per kind of hop,
each followed by a continuation, and `body_eq` says that the two are the same program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Ring

open Cert.KernelIdeal Cert.KernelIdeal.Gen
open Idealize.ShloMosaic Idealize.ShloMosaic.TcCoe Idealize.SL.Sem

variable {F : FTy → Type} [FloatOps F]

/-! ## Buffers, windows and semaphores by direction, slot and block -/

/-- The staged `x` block, the staged `w` block and the staged result. -/
abbrev xM : Memref sig .tc .vmem S1024x256 .f32 := Memref.whole cc0_stg0_0
abbrev wM : Memref sig .tc .vmem S256x1024 .f32 := Memref.whole cc0_stg1_0
abbrev oM : Memref sig .tc .vmem S1024x1024 .f32 := Memref.whole cc0_stg2_0

/-- The landing buffer of a direction: six slots of 256 rows. -/
def cM : Bool → Memref sig .tc .vmem S6x256x512 .bf16
  | false => Memref.whole cc0_scratch0
  | true => Memref.whole cc0_scratch1
/-- The staging buffer of a direction. -/
def gM : Bool → Memref sig .tc .vmem S6x256x512 .bf16
  | false => Memref.whole cc0_scratch2
  | true => Memref.whole cc0_scratch3
theorem cM_whole (δ : Bool) : (cM δ).IsWhole := by cases δ <;> exact Memref.isWhole_whole _
theorem gM_whole (δ : Bool) : (gM δ).IsWhole := by cases δ <;> exact Memref.isWhole_whole _

/-- The send and receive semaphores of a direction. -/
def sS : Bool → DmaSems sig S24
  | false => cc0_scratch4
  | true => cc0_scratch6
def rS : Bool → DmaSems sig S24
  | false => cc0_scratch5
  | true => cc0_scratch7

theorem win_inb (s : Fin 6) (b : Fin 4) : ∀ a, (![s.val, 64 * b.val, 0] : Fin 3 → Nat) a + S1x64x512.size a ≤ S6x256x512.size a := by
  revert s b; decide
/-- Block `b` of slot `s` of a landing or staging buffer. -/
abbrev winR (s : Fin 6) (b : Fin 4) : Rect S6x256x512 := Rect.unit (s := S6x256x512) ![s.val, 64 * b.val, 0] S1x64x512.size (win_inb s b)
theorem win_words (s : Fin 6) (b : Fin 4) : (winR s b).WholeWords (EltTy.packing .bf16) := by
  revert s b; decide
theorem win_packed (s : Fin 6) (b : Fin 4) : (winR s b).PackedRows (EltTy.packing .bf16) := by
  revert s b; decide

/-- A window of a landing or staging buffer, as transfers name it. -/
abbrev winM (m : Memref sig .tc .vmem S6x256x512 .bf16) (s : Fin 6) (b : Fin 4) : Memref sig .tc .vmem S1x64x512 .bf16 :=
  m.slice (winR s b) (fun _ => rfl)
abbrev flatM (m : Memref sig .tc .vmem S6x256x512 .bf16) (s : Fin 6) (b : Fin 4) : Memref sig .tc .vmem S64x512 .bf16 :=
  (winM m s b).squeeze S64x512 squeezes_S1x64x512_S64x512
theorem flat_exact (m : Memref sig .tc .vmem S6x256x512 .bf16) (h : m.IsWhole) (s : Fin 6) (b : Fin 4) : (flatM m s b).view.WordExact :=
  (h.wordExact_slice rfl _ (win_words s b)).reshape _ _

theorem sem_inb (s : Fin 6) (b : Fin 4) : ∀ a, (![4 * s.val + b.val] : Fin 1 → Nat) a + S1.size a ≤ S24.size a := by
  revert s b; decide
/-- Semaphore `4 s + b` of an array of twenty-four. -/
abbrev semAt (A : DmaSems sig S24) (s : Fin 6) (b : Fin 4) : DmaSem sig :=
  ((A.slice (Rect.unit (s := S24) ![4 * s.val + b.val] S1.size (sem_inb s b))).squeeze S_ squeezes_S1_S_).sem

/-- The barrier semaphore. -/
abbrev barSem : Sem sig := (SemArray.scalar (sig.barrier 0 rfl) : Sems sig S_).sem

/-- The device a direction sends to, as the kernel computes it. -/
def peer (d : Dev nD) : Bool → Dev nD
  | false => ⟨k0_dev3 d, k0_dev3_lt d⟩
  | true => ⟨k0_dev4 d, k0_dev4_lt d⟩

/-! ## The programs of the hops, each followed by a continuation -/

abbrev Pr (F : FTy → Type) [FloatOps F] := Prog (TpuEff nD τ sig (Elt F) Λ₀ .tc) PUnit

/-- One program after the other over a list. -/
def seqL {α : Type} (f : α → Pr F → Pr F) (l : List α) (K : Pr F) : Pr F := match l with
  | [] => K
  | a :: l => f a (seqL f l K)

abbrev InbX (off : Fin 2 → Nat) : Prop := ∀ a, off a + S256x256.size a ≤ S1024x256.size a
abbrev InbO (off : Fin 2 → Nat) : Prop := ∀ a, off a + S256x1024.size a ≤ S1024x1024.size a
abbrev InbB (off : Fin 2 → Nat) : Prop := ∀ a, off a + S64x512.size a ≤ S1024x1024.size a

/-- One chunk of 256 rows of this device's product. -/
def gemmP (offX offO : Fin 2 → Nat) (hX : InbX offX) (hO : InbO offO) (K : Pr F) : Pr F :=
  .op (.load xM (Rect.unit (s := S1024x256) offX S256x256.size hX).toLoadRect (View.loadsAt_vmem h_S256x256)) fun v =>
  .op (.load wM (Rect.unit (s := S256x1024) ![0, 0] S256x1024.size inb_S256x1024_S256x1024_0_0).toLoadRect (View.loadsAt_vmem h_S256x1024)) fun w =>
  .op (.load oM (Rect.unit (s := S1024x1024) offO S256x1024.size hO).toLoadRect (View.loadsAt_vmem h_S256x1024)) fun _ =>
  .op (.store oM (Rect.unit (s := S1024x1024) offO S256x1024.size hO) (k0_pay1 v w) Finset.univ (View.stores_vmem_bits_univ h_S256x1024 rfl) (.inl rfl)) fun _ => K

/-- Start the transfer of slot `s` from a window of `src`. -/
def sendP (d : Dev nD) (δ : Bool) (b : Fin 4) (src : Memref sig .tc .vmem S6x256x512 .bf16) (hs : src.IsWhole) (s' s : Fin 6) (K : Pr F) : Pr F :=
  .op (.enqueueDma (flatM src s' b) (.remote (Dev.tc (peer d δ)) (flatM (cM δ) s b) (.dma (semAt (sS δ) s b)) (by cases δ <;> rfl)) (.dma (semAt (rS δ) s b))
    (flat_exact src hs s' b) (flat_exact (cM δ) (cM_whole δ) s b) ⟨⟨rfl, Or.inl rfl⟩, trivial⟩) fun _ => K

/-- Wait for the landing of slot `s`. -/
def recvP (δ : Bool) (b : Fin 4) (src : Memref sig .tc .vmem S6x256x512 .bf16) (hs : src.IsWhole) (s' s : Fin 6) (K : Pr F) : Pr F :=
  .op (.waitDma2 (semAt (rS δ) s b) (flatM src s' b) (flatM (cM δ) s b) (flat_exact src hs s' b) (flat_exact (cM δ) (cM_whole δ) s b)) fun _ => K

/-- Wait for the departure of slot `s`. -/
def sentP (δ : Bool) (b : Fin 4) (src : Memref sig .tc .vmem S6x256x512 .bf16) (hs : src.IsWhole) (s' s : Fin 6) (K : Pr F) : Pr F :=
  .op (.waitDma2 (semAt (sS δ) s b) (flatM (cM δ) s b) (flatM src s' b) (flat_exact (cM δ) (cM_whole δ) s b) (flat_exact src hs s' b)) fun _ => K

/-- Read a block of the result. -/
def loadO (off : Fin 2 → Nat) (h : InbB off) (K : Vec F S64x512 .f32 → Pr F) : Pr F :=
  .op (.load oM (Rect.unit (s := S1024x1024) off S64x512.size h).toLoadRect (View.loadsAt_vmem h_S64x512)) K
/-- Write a block of the result. -/
def storeO (off : Fin 2 → Nat) (h : InbB off) (v : Vec F S64x512 .f32) (K : Pr F) : Pr F :=
  .op (.store oM (Rect.unit (s := S1024x1024) off S64x512.size h) v Finset.univ (View.stores_vmem_bits_univ h_S64x512 rfl) (.inl rfl)) fun _ => K
/-- Read a window of a landing or staging buffer. -/
def loadW (m : Memref sig .tc .vmem S6x256x512 .bf16) (s : Fin 6) (b : Fin 4) (K : Vec F S1x64x512 .bf16 → Pr F) : Pr F :=
  .op (.load m (winR s b).toLoadRect (View.loadsAt_vmem h_S1x64x512)) K
/-- Write a window of a staging buffer. -/
def storeW (m : Memref sig .tc .vmem S6x256x512 .bf16) (hm : m.IsWhole) (s : Fin 6) (b : Fin 4) (v : Vec F S1x64x512 .bf16) (K : Pr F) : Pr F :=
  .op (.store m (winR s b) v Finset.univ (View.stores_vmem h_S1x64x512 (hm.storeExact_slice rfl _ (win_packed s b)) (fun _ => rfl)) (.inl rfl)) fun _ => K

/-- The first hop of a lane: the block of this device's own chunk, rounded, staged and sent. -/
def firstP (d : Dev nD) (δ : Bool) (b : Fin 4) (off : Fin 2 → Nat) (h : InbB off) (K : Pr F) : Pr F :=
  loadO off h fun v => loadW (gM δ) 0 b fun _ => storeW (gM δ) (gM_whole δ) 0 b (k0_pay4 v) <|
  sendP d δ b (gM δ) (gM_whole δ) 0 0 K

/-- A reducing hop: what landed is added to this device's block, kept, rounded, staged and sent on. -/
def reduceP (d : Dev nD) (δ : Bool) (b : Fin 4) (s' s : Fin 6) (off : Fin 2 → Nat) (h : InbB off) (K : Pr F) : Pr F :=
  recvP δ b (gM δ) (gM_whole δ) s' s' <| loadO off h fun v => loadW (cM δ) s' b fun u => loadO off h fun _ =>
  storeO off h (k0_pay14 v u) <| loadW (gM δ) s b fun _ => storeW (gM δ) (gM_whole δ) s b (k0_pay15 v u) <|
  sendP d δ b (gM δ) (gM_whole δ) s s K

/-- The last reducing hop, through the epilogue. -/
def finP (d : Dev nD) (δ : Bool) (b : Fin 4) (off : Fin 2 → Nat) (h : InbB off) (K : Pr F) : Pr F :=
  recvP δ b (gM δ) (gM_whole δ) 2 2 <| loadO off h fun v => loadW (cM δ) 2 b fun u => loadO off h fun _ =>
  storeO off h (k0_pay49 v u) <| loadW (gM δ) 3 b fun _ => storeW (gM δ) (gM_whole δ) 3 b (k0_pay66 v u) <|
  sendP d δ b (gM δ) (gM_whole δ) 3 3 K

/-- A gathering hop: what landed is sent on from where it landed, and kept. -/
def gatherP (d : Dev nD) (δ : Bool) (b : Fin 4) (src : Memref sig .tc .vmem S6x256x512 .bf16) (hs : src.IsWhole) (s0 s' s : Fin 6)
    (off : Fin 2 → Nat) (h : InbB off) (K : Pr F) : Pr F :=
  recvP δ b src hs s0 s' <| sendP d δ b (cM δ) (cM_whole δ) s' s <| loadW (cM δ) s' b fun u => loadO off h fun _ => storeO off h (k0_pay69 u) K

/-- The last gathering hop. -/
def lastP (δ : Bool) (b : Fin 4) (off : Fin 2 → Nat) (h : InbB off) (K : Pr F) : Pr F :=
  recvP δ b (cM δ) (cM_whole δ) 4 5 <| loadW (cM δ) 5 b fun u => loadO off h fun _ => storeO off h (k0_pay69 u) K

/-! ## The offsets the hops read and write the result at -/

/-- Which block and direction: the kernel's order. -/
abbrev Lane := Fin 4 × Bool
def lanes : List Lane := [(0, false), (0, true), (1, false), (1, true), (2, false), (2, true), (3, false), (3, true)]

def off0 (d : Dev nD) : Lane → Fin 2 → Nat
  | (b, false) => k0_off3 d (BitVec.ofNat 32 (64 * b.val))
  | (b, true) => k0_off4 d (BitVec.ofNat 32 (64 * b.val))
/-- `s` steps against the direction from this device's chunk. -/
def offS (d : Dev nD) (s : Fin 3) : Lane → Fin 2 → Nat
  | (b, false) => k0_off7 d (BitVec.ofNat 32 (4294967296 - s.val)) (BitVec.ofNat 32 (64 * b.val))
  | (b, true) => k0_off8 d (BitVec.ofNat 32 s.val) (BitVec.ofNat 32 (64 * b.val))
def offF (d : Dev nD) : Lane → Fin 2 → Nat
  | (b, false) => k0_off9 d (BitVec.ofNat 32 (64 * b.val))
  | (b, true) => k0_off10 d (BitVec.ofNat 32 (64 * b.val))

/-- The chunk a lane works on `s` steps against its direction from device `d`'s. -/
def chunkAt (d : Dev nD) (δ : Bool) (s : Nat) : Fin 4 := match δ with
  | false => ⟨(d.val + 4 * s - s) % 4, Nat.mod_lt _ (by decide)⟩
  | true => ⟨(d.val + s) % 4, Nat.mod_lt _ (by decide)⟩
/-- Where block `b` of chunk `j` of a direction's half starts. -/
abbrev offB (j : Fin 4) (a : Lane) : Fin 2 → Nat := ![256 * j.val + 64 * a.1.val, 512 * a.2.toNat]

theorem offB_inb (j : Fin 4) (a : Lane) : InbB (offB j a) := by
  revert j a; decide
theorem off0_eq (d : Dev nD) (a : Lane) : off0 d a = offB (chunkAt d a.2 0) a := by
  revert d a; decide +kernel
theorem offS_eq (d : Dev nD) (s : Fin 3) (a : Lane) : offS d s a = offB (chunkAt d a.2 s.val) a := by
  revert d s a; decide +kernel
theorem offF_eq (d : Dev nD) (a : Lane) : offF d a = offB (chunkAt d a.2 3) a := by
  revert d a; decide +kernel
theorem off0_inb (d : Dev nD) (a : Lane) : InbB (off0 d a) := by rw [off0_eq]; exact offB_inb _ _
theorem offS_inb (d : Dev nD) (s : Fin 3) (a : Lane) : InbB (offS d s a) := by rw [offS_eq]; exact offB_inb _ _
theorem offF_inb (d : Dev nD) (a : Lane) : InbB (offF d a) := by rw [offF_eq]; exact offB_inb _ _

def slots : List (Fin 6) := [0, 1, 2, 3, 4, 5]
/-- Where the transfer of a slot was sent from. -/
def srcM (δ : Bool) (s : Fin 6) : Memref sig .tc .vmem S6x256x512 .bf16 := match s with
  | 0 => gM δ | 1 => gM δ | 2 => gM δ | 3 => gM δ | 4 => cM δ | 5 => cM δ
def srcS (s : Fin 6) : Fin 6 := match s with
  | 0 => 0 | 1 => 1 | 2 => 2 | 3 => 3 | 4 => 3 | 5 => 4
theorem srcM_whole (δ : Bool) (s : Fin 6) : (srcM δ s).IsWhole := by
  fin_cases s <;> first | exact gM_whole δ | exact cM_whole δ

/-- The first, second, … passes over the lanes. -/
def pass0 (d : Dev nD) (K : Pr F) : Pr F := seqL (fun a K => firstP d a.2 a.1 (off0 d a) (off0_inb d a) K) lanes K
def passR (d : Dev nD) (s : Fin 3) (s' s1 : Fin 6) (K : Pr F) : Pr F := seqL (fun a K => reduceP d a.2 a.1 s' s1 (offS d s a) (offS_inb d s a) K) lanes K
def passF (d : Dev nD) (K : Pr F) : Pr F := seqL (fun a K => finP d a.2 a.1 (offF d a) (offF_inb d a) K) lanes K
def passG (d : Dev nD) (t : Fin 3) (s' s1 : Fin 6) (K : Pr F) : Pr F :=
  seqL (fun a K => gatherP d a.2 a.1 (srcM a.2 s') (srcM_whole a.2 s') (srcS s') s' s1 (offS d t a) (offS_inb d t a) K) lanes K
def passL (d : Dev nD) (K : Pr F) : Pr F := seqL (fun a K => lastP a.2 a.1 (offS d 2 a) (offS_inb d 2 a) K) lanes K
def passW (K : Pr F) : Pr F := seqL (fun s K => seqL (fun a K => sentP a.2 a.1 (srcM a.2 s) (srcM_whole a.2 s) (srcS s) s K) lanes K) slots K

/-- The kernel's body. -/
def bodyP : Pr F :=
  .op .deviceId fun d =>
  .op (.semSignal ((⟨k0_dev1 d, k0_dev1_lt d⟩ : Dev nD), .tc) barSem (1#32 : BitVec 32).toInt) fun _ =>
  .op (.semSignal ((⟨k0_dev2 d, k0_dev2_lt d⟩ : Dev nD), .tc) barSem (1#32 : BitVec 32).toInt) fun _ =>
  .op (.semWait barSem (2#32 : BitVec 32).toInt) fun _ =>
  gemmP (k0_off1 d) (k0_off2 d) (k0_off1_inb d) (k0_off2_inb d) <|
  pass0 d <|
  gemmP (k0_off5 d 1#32) (k0_off6 d 1#32) (k0_off5_inb d 0) (k0_off6_inb d 0) <|
  gemmP (k0_off5 d 2#32) (k0_off6 d 2#32) (k0_off5_inb d 1) (k0_off6_inb d 1) <|
  gemmP (k0_off5 d 3#32) (k0_off6 d 3#32) (k0_off5_inb d 2) (k0_off6_inb d 2) <|
  passR d 1 0 1 <| passR d 2 1 2 <| passF d <| passG d 0 3 4 <| passG d 1 4 5 <| passL d <| passW (.ret ⟨⟩)

end Cert.Ring

end
-- ==== Proof.Vals.lean ====
/-
What the ring holds at each hop.

Every device first multiplies its columns of `x` by its rows of `w` (its *part* of the result). In each lane the parts
of one block travel three hops, each device adding its own (`sentV` 0, 1, 2); the device where the sum is complete
applies the epilogue and sends the finished block on (`sentV` 3, 4, 5). `outV` is the finished block a device keeps.
-/
module

public import proofs.«01_k».proof.Proof.Text

@[expose] public section

noncomputable section

namespace Cert.Ring

open Cert.KernelIdeal Cert.KernelIdeal.Gen
open Idealize.ShloMosaic Idealize.ShloMosaic.TcCoe Idealize.SL.Sem

variable {F : FTy → Type} [FloatOps F]

/-! ## The ring -/

/-- The device a direction's transfers come from. -/
def srcD : Bool → Dev nD → Dev nD
  | false, c => ⟨(c.val + 3) % 4, Nat.mod_lt _ (by decide)⟩
  | true, c => ⟨(c.val + 1) % 4, Nat.mod_lt _ (by decide)⟩
/-- The device a direction sends to. -/
abbrev dstD (δ : Bool) (c : Dev nD) : Dev nD := srcD (!δ) c

theorem src_dst (δ : Bool) (c : Dev nD) : srcD δ (dstD δ c) = c := by revert δ c; decide
theorem dst_src (δ : Bool) (c : Dev nD) : dstD δ (srcD δ c) = c := by revert δ c; decide
theorem peer_eq (c : Dev nD) (δ : Bool) : peer c δ = dstD δ c := by
  cases δ
  · exact Fin.ext (k0_dev3_eq c)
  · exact Fin.ext (k0_dev4_eq c)
theorem dev1_eq (c : Dev nD) : (⟨k0_dev1 c, k0_dev1_lt c⟩ : Dev nD) = srcD false c := Fin.ext (k0_dev1_eq c)
theorem dev2_eq (c : Dev nD) : (⟨k0_dev2 c, k0_dev2_lt c⟩ : Dev nD) = srcD true c := Fin.ext (k0_dev2_eq c)

/-- The ring turned by one, in a direction. -/
def turn (δ : Bool) : Dev nD ≃ Dev nD := ⟨dstD δ, srcD δ, src_dst δ, dst_src δ⟩

/-! ## The parts and what is sent -/

abbrev VX (F : FTy → Type) := S1024x256.Idx → Elt F .f32
abbrev VW (F : FTy → Type) := S256x1024.Idx → Elt F .f32

theorem offX_inb (j : Fin 4) : InbX ![256 * j.val, 0] := by revert j; decide
theorem offO_inb (j : Fin 4) : InbO ![256 * j.val, 0] := by revert j; decide
abbrev rX (j : Fin 4) : Rect S1024x256 := Rect.unit (s := S1024x256) ![256 * j.val, 0] S256x256.size (offX_inb j)
abbrev rO (j : Fin 4) : Rect S1024x1024 := Rect.unit (s := S1024x1024) ![256 * j.val, 0] S256x1024.size (offO_inb j)
abbrev rW : Rect S256x1024 := Rect.unit (s := S256x1024) ![0, 0] S256x1024.size inb_S256x1024_S256x1024_0_0
abbrev rB (j : Fin 4) (a : Lane) : Rect S1024x1024 := Rect.unit (s := S1024x1024) (offB j a) S64x512.size (offB_inb j a)

/-- Chunk `j` of the product of `X` and `W`. -/
def chunkV (X : VX F) (W : VW F) (j : Fin 4) : Vec F S256x1024 .f32 :=
  k0_pay1 (fun i => X ((rX j).emb i)) (fun i => W (rW.emb i))

theorem cut_inb (a : Lane) : ∀ i, (![64 * a.1.val, 512 * a.2.toNat] : Fin 2 → Nat) i + S64x512.size i ≤ S256x1024.size i := by revert a; decide
/-- A lane's block within a chunk. -/
abbrev rC (a : Lane) : Rect S256x1024 := Rect.unit (s := S256x1024) ![64 * a.1.val, 512 * a.2.toNat] S64x512.size (cut_inb a)

/-- A lane's block of chunk `j` of the product of `X` and `W`. -/
def partV (X : VX F) (W : VW F) (j : Fin 4) (a : Lane) : Vec F S64x512 .f32 := fun i => chunkV X W j ((rC a).emb i)

variable (X : Dev nD → VX F) (W : Dev nD → VW F)

/-- What device `c` sends in a slot of a lane. -/
def sentV (a : Lane) : Nat → Dev nD → Vec F S1x64x512 .bf16
  | 0, c => k0_pay4 (partV (X c) (W c) (chunkAt c a.2 0) a)
  | 1, c => k0_pay15 (partV (X c) (W c) (chunkAt c a.2 1) a) (sentV a 0 (srcD a.2 c))
  | 2, c => k0_pay15 (partV (X c) (W c) (chunkAt c a.2 2) a) (sentV a 1 (srcD a.2 c))
  | 3, c => k0_pay66 (partV (X c) (W c) (chunkAt c a.2 3) a) (sentV a 2 (srcD a.2 c))
  | n + 4, c => sentV a (n + 3) (srcD a.2 c)

/-- What lands on device `c` in a slot of a lane. -/
def landV (a : Lane) (s : Nat) (c : Dev nD) : Vec F S1x64x512 .bf16 := sentV X W a s (srcD a.2 c)

/-- The finished block device `c` keeps, `s` chunks against the direction from its own. -/
def outV (a : Lane) (s : Nat) (c : Dev nD) : Vec F S64x512 .f32 := match s with
  | 3 => k0_pay49 (partV (X c) (W c) (chunkAt c a.2 3) a) (landV X W a 2 c)
  | s => k0_pay69 (landV X W a (3 + s) c)

end Cert.Ring

end
-- ==== Proof.Windows.lean ====
/-
Windows of a buffer, owned by their contents: loads and stores through them, and the two ends of a transfer.
-/
module

public import proofs.«01_k».proof.Proof.Vals
public import Idealize.ShloMosaic.Lib.Pipeline.Launch
public import Idealize.ShloMosaic.Lib.Pipeline.Kit
public import Idealize.ShloMosaic.Lib.Tactic
public import Idealize.ShloMosaic.Lib.Writes
public import Idealize.ShloMosaic.Lib.MemrefSat

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline library's rounds and the ring's -/

abbrev UB : Type := URounds (GSem nD τ sig) Bool
abbrev UU : Type := UR sig nD τ × UB
abbrev MM (F : FTy → Type) [FloatOps F] := MT nD τ sig Unit (Elt F) ℕ UU ℕ

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a device's program. -/
abbrev WP (c : Dev nD) (p : Pr F) (Q : PUnit → sProp 𝕄) : sProp 𝕄 :=
  wp frame (wpE (defs₀ (F := F)) 𝒱₀ (c : Thread nD τ) none) Set.univ p Q

/-- Device `c` holds `X` in the memref, with share `q`. -/
abbrev has (c : Dev nD) {sp : Space} {sh : Shape} {e : EltTy} (m : Memref sig .tc sp sh e) (q : PosShare TreeShare) (X : sh.Idx → Elt F e) : sProp 𝕄 :=
  owns (Ix := Unit) (Name := ℕ) (U := UU) (Lvl := ℕ) (c : Thread nD τ) m q X

/-! ## Loads and stores -/

theorem wp_load_has (c : Dev nD) {cs : CoreSpace} {s : Shape} {e : EltTy} {m : Memref sig .tc cs s e} {r : Rect s} (hr : ∀ a, r.stride a = 1)
    {hl : m.view.LoadsAt r.toLoadRect} {k : (r.shape.Idx → Elt F e) → Pr F} {q : PosShare TreeShare} {X : r.shape.Idx → Elt F e} {Q : PUnit → sProp 𝕄} :
    has c (m.slice r hr) q X ⊢ iprop((has c (m.slice r hr) q X -∗ WP c (k X) Q) -∗ WP c (.op (.load m r.toLoadRect hl) k) Q) := by
  unfold has owns
  iintro ⟨%f, %hf, H⟩ Hk
  iapply (wp_load_rect 𝒱₀ (c : Thread nD τ) none Set.univ (m := m) (r := r) (Finset.Subset.refl _)) $$ H
  iintro H
  rw [show (m.access r).read (Elt F) f = X from hf]
  iapply Hk
  iexists f
  isplitr; · ipureintro; exact hf
  iexact H

theorem wp_store_has (c : Dev nD) {cs : CoreSpace} {s : Shape} {e : EltTy} {m : Memref sig .tc cs s e} {r : Rect s} (hr : ∀ a, r.stride a = 1)
    {w : r.shape.Idx → Elt F e} {hx : (m.access r).Stores Finset.univ} {hm : (Finset.univ : Finset r.shape.Idx) = Finset.univ ∨ ∀ a, r.stride a = 1}
    {k : PUnit → Pr F} {Q : PUnit → sProp 𝕄} :
    iprop(∃ X, has c (m.slice r hr) fullShare X) ⊢ iprop((has c (m.slice r hr) fullShare w -∗ WP c (k ⟨⟩) Q) -∗ WP c (.op (.store m r w Finset.univ hx hm) k) Q) := by
  unfold has owns
  iintro ⟨%X, %f, %hf, H⟩ Hk
  iapply (wp_store 𝒱₀ (c : Thread nD τ) none Set.univ (m := m) (r := r) (Mk := Finset.univ) (by rw [View.setOn_univ])) $$ H
  iintro H
  iapply Hk
  iexists ((m.access r).write (Elt F) f w Finset.univ)
  isplitr; · ipureintro; exact View.read_write_univ _ _
  iexact H

/-! ## A window under the transfer's own name for it -/

theorem flat_set (m : Memref sig .tc .vmem S6x256x512 .bf16) (s : Fin 6) (b : Fin 4) : (flatM m s b).view.set = (winM m s b).view.set :=
  View.set_reshape _ _

/-- A window's contents are as well owned under the transfer's name. -/
theorem has_of_flat (c : Dev nD) (m : Memref sig .tc .vmem S6x256x512 .bf16) (s : Fin 6) (b : Fin 4) (q : PosShare TreeShare)
    (f : Buf (Elt F) ((flatM m s b).view.loc (c : Thread nD τ))) (X : S1x64x512.Idx → Elt F .bf16) (hf : (winM m s b).view.read (Elt F) f = X) :
    ((flatM m s b).view.loc (c : Thread nD τ) ↦[(flatM m s b).view.set]{q} f : sProp 𝕄) ⊢ has c (winM m s b) q X := by
  rw [flat_set]
  unfold has owns
  iintro H
  iexists f
  isplitr; · ipureintro; exact hf
  iexact H

/-- What a transfer leaves in its destination window is what its source window held. -/
theorem land_read (m m' : Memref sig .tc .vmem S6x256x512 .bf16) (s s' : Fin 6) (b : Fin 4) (fd : (flatM m s b).view.ty.Contents (Elt F))
    (fs : (flatM m' s' b).view.ty.Contents (Elt F)) :
    (winM m s b).view.read (Elt F) ((flatM m s b).view.write (Elt F) fd ((flatM m' s' b).view.read (Elt F) fs) Finset.univ)
      = (winM m' s' b).view.read (Elt F) fs := by
  have h := View.write_reshape_univ (v := (winM m s b).view) squeezes_S1x64x512_S64x512.numel_eq fd ((flatM m' s' b).view.read (Elt F) fs)
  refine (congrArg ((winM m s b).view.read (Elt F)) h).trans ((View.read_write_univ _ _).trans (funext fun x => ?_))
  show (winM m' s' b).view.read (Elt F) fs (Shape.reshapeEquiv _ ((Shape.reshapeEquiv _).symm x)) = _
  rw [Equiv.apply_symm_apply]

end Cert.Ring

end
-- ==== Proof.Sched.lean ====
/-
The protocol: the cells, who pays what into them, and the order that rules out deadlock.

Every device has a barrier cell and, per slot and lane, a send and a receive cell. A barrier cell is paid one unit by each
neighbour, who hands over the landing buffer that this device will write into; a receive cell is paid by the transfer
of its slot, with the landed window; a send cell by the same transfer, with the source window.
-/
module

public import proofs.«01_k».proof.Proof.Windows

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells -/

/-- A transfer of a device: its slot and lane. -/
abbrev Hop := Fin 6 × Lane
/-- The kernel's own semaphores: of each hop the one it departs by (`false`) and the one it lands by (`true`). -/
abbrev OK := Bool × Hop
def osem : OK → SemLoc sig
  | (false, (s, (b, δ))) => .dma (semAt (sS δ) s b)
  | (true, (s, (b, δ))) => .dma (semAt (rS δ) s b)
/-- All of the ring's semaphores: the barrier (`none`) and the own ones. -/
abbrev CK := Option OK
def csem : CK → SemLoc sig
  | none => .reg barSem
  | some k => osem k

/-- The number of an own semaphore among the device's transfer semaphores. -/
def semNo : OK → Nat
  | (k, (s, (b, δ))) => 3 + 48 * δ.toNat + 24 * k.toNat + 4 * s.val + b.val
theorem osem_no (k : OK) : ∃ q : DmaSem sig, osem k = .dma q ∧ q.val = semNo k := by
  obtain ⟨k, s, b, δ⟩ := k
  cases k <;> cases δ <;> exact ⟨_, rfl, by revert s b; decide +kernel⟩

theorem semNo_inj : Function.Injective semNo := by
  rintro ⟨k, s, b, δ⟩ ⟨k', s', b', δ'⟩ h
  have hs := s.isLt; have hb := b.isLt; have hs' := s'.isLt; have hb' := b'.isLt
  simp only [semNo] at h
  have h1 : δ = δ' := by cases δ <;> cases δ' <;> cases k <;> cases k' <;> simp at h ⊢ <;> omega
  subst h1
  have h2 : k = k' := by cases k <;> cases k' <;> simp at h ⊢ <;> omega
  subst h2
  have h3 : s = s' := Fin.ext (by omega)
  subst h3
  have h4 : b = b' := Fin.ext (by omega)
  subst h4
  rfl
theorem osem_inj : Function.Injective osem := fun k k' h => by
  obtain ⟨q, e, n⟩ := osem_no k
  obtain ⟨q', e', n'⟩ := osem_no k'
  rw [e, e'] at h
  exact semNo_inj (by rw [← n, ← n', SemLoc.dma.inj h])
theorem osem_ne_bar (k : OK) : osem k ≠ .reg barSem := by
  obtain ⟨q, e, -⟩ := osem_no k
  rw [e]; intro h; cases h
theorem csem_inj : Function.Injective csem
  | none, none, _ => rfl
  | none, some k, h => absurd h.symm (osem_ne_bar k)
  | some k, none, h => absurd h (osem_ne_bar k)
  | some k, some k', h => congrArg some (osem_inj h)

/-- Which of the ring's semaphores this is. -/
def decode (q : SemLoc sig) : Option CK := by
  classical exact if h : ∃ k, csem k = q then some h.choose else none
theorem decode_csem (k : CK) : decode (csem k) = some k := by
  unfold decode
  rw [dif_pos ⟨k, rfl⟩]
  exact congrArg some (csem_inj (Exists.choose_spec (⟨k, rfl⟩ : ∃ k', csem k' = csem k)))

abbrev cell (c : Dev nD) (k : CK) : GSem nD τ sig := ((c : Thread nD τ), csem k)
abbrev barC (c : Dev nD) : GSem nD τ sig := cell c none
abbrev sndC (c : Dev nD) (h : Hop) : GSem nD τ sig := cell c (some (false, h))
abbrev rcvC (c : Dev nD) (h : Hop) : GSem nD τ sig := cell c (some (true, h))
theorem cell_inj {c c' : Dev nD} {k k' : CK} (h : cell c k = cell c' k') : c = c' ∧ k = k' :=
  ⟨congrArg (fun g : GSem nD τ sig => g.1.1) h, csem_inj (congrArg Prod.snd h)⟩

/-- What one transfer adds to its semaphores. -/
def N : ℕ := (flatM (cM false) 0 0).view.dmaCredit
theorem N_pos : 0 < N := View.dmaCredit_pos _ (by decide)
theorem credit_eq (m : Memref sig .tc .vmem S6x256x512 .bf16) (s : Fin 6) (b : Fin 4) : (flatM m s b).view.dmaCredit = N := rfl

/-! ## The schedule -/

variable (X : Dev nD → VX F) (W : Dev nD → VW F)

/-- The landing buffer of direction `δ` of the device that `c` sends to: what `c` needs before its transfers. -/
def barPay (c : Dev nD) (δ : Bool) : sProp 𝕄 :=
  bigSep Finset.univ fun t : Fin 6 × Fin 4 => iprop(∃ Y, has (dstD δ c) (winM (cM δ) t.1 t.2) fullShare Y)

/-- The share of its source window a transfer takes: the whole of a staging window, half of a landing window (the
    device reads the other half meanwhile). -/
def qOf (s : Fin 6) : PosShare TreeShare := match s with
  | 0 => fullShare | 1 => fullShare | 2 => fullShare | 3 => fullShare | 4 => fullShare.right | 5 => fullShare.right

/-- What a hop's departure gives back, and what its landing gives. -/
def sndPay (c : Dev nD) (h : Hop) : sProp 𝕄 := has c (winM (srcM h.2.2 h.1) (srcS h.1) h.2.1) (qOf h.1) (sentV X W h.2 h.1.val c)
def rcvPay (c : Dev nD) (h : Hop) : sProp 𝕄 := has c (winM (cM h.2.2) h.1 h.2.1) fullShare (landV X W h.2 h.1.val c)

def payOf (c : Dev nD) (d : Bool) : Option CK → sProp 𝕄
  | some none => barPay c d
  | some (some (false, h)) => sndPay X W c h
  | some (some (true, h)) => rcvPay X W c h
  | none => iprop(emp)

def dutiesOf : Option CK → Finset Bool
  | some none => Finset.univ
  | some (some _) => {false}
  | none => ∅
def amountOf' : Option CK → ℕ
  | some none => 1
  | _ => N

/-- One round: a barrier cell has a unit from each neighbour, a send or receive cell its transfer's credit. -/
def Rd : Rounds.Schedule (GSem nD τ sig) Bool 𝕄 where
  duties g r := if r = 0 ∧ g.1.2 = .tc then dutiesOf (decode g.2) else ∅
  unitless _ := False
  amount g _ _ := amountOf' (decode g.2)
  payload g _ d := payOf X W g.1.1 d (decode g.2)
  amount_pos g _ _ _ := by
    rcases decode g.2 with _ | _ | _
    · exact N_pos
    · exact Nat.one_pos
    · exact N_pos

instance payOf_storable (c : Dev nD) (d : Bool) (o : Option CK) : BI.Storable (upEmb : UEmb _ 𝕄) (payOf X W c d o) := by
  rcases o with _ | _ | ⟨_ | _, h⟩
  · unfold payOf; infer_instance
  · unfold payOf barPay; infer_instance
  · unfold payOf sndPay; infer_instance
  · unfold payOf rcvPay; infer_instance
instance Rd_storable (g : GSem nD τ sig) (r : ℕ) (d : Bool) : BI.Storable (upEmb : UEmb _ 𝕄) ((Rd X W).payload g r d) := by
  show BI.Storable _ (payOf X W g.1.1 d (decode g.2)); infer_instance

theorem duties_bar (c : Dev nD) : (Rd X W).duties (barC c) 0 = Finset.univ := by
  dsimp only [Rd]; rw [if_pos ⟨rfl, rfl⟩, decode_csem]; rfl
theorem duties_own (c : Dev nD) (k : OK) : (Rd X W).duties (cell c (some k)) 0 = {false} := by
  dsimp only [Rd]; rw [if_pos ⟨rfl, rfl⟩, decode_csem]; rfl
theorem duties_later (g : GSem nD τ sig) : ∀ r, 1 ≤ r → (Rd X W).duties g r = ∅ := fun r hr => if_neg fun h => by omega
theorem amount_bar (c : Dev nD) (d : Bool) : (Rd X W).amount (barC c) 0 d = 1 := by
  show amountOf' (decode (csem none)) = _; rw [decode_csem]; rfl
theorem amount_own (c : Dev nD) (k : OK) (d : Bool) : (Rd X W).amount (cell c (some k)) 0 d = N := by
  show amountOf' (decode (csem (some k))) = _; rw [decode_csem]; rfl
theorem payload_bar (c : Dev nD) (d : Bool) : (Rd X W).payload (barC c) 0 d = barPay c d := by
  show payOf X W c d (decode (csem none)) = _; rw [decode_csem]; rfl
theorem payload_snd (c : Dev nD) (h : Hop) (d : Bool) : (Rd X W).payload (sndC c h) 0 d = sndPay X W c h := by
  show payOf X W c d (decode (csem (some (false, h)))) = _; rw [decode_csem]; rfl
theorem payload_rcv (c : Dev nD) (h : Hop) (d : Bool) : (Rd X W).payload (rcvC c h) 0 d = rcvPay X W c h := by
  show payOf X W c d (decode (csem (some (true, h)))) = _; rw [decode_csem]; rfl

theorem expect_bar (c : Dev nD) : (Rd X W).expect (barC c) 0 = 2 := by
  unfold Schedule.expect Schedule.amountOf
  rw [duties_bar, Finset.sum_congr rfl fun d _ => amount_bar X W c d, Finset.sum_const, Finset.card_univ, Fintype.card_bool, smul_eq_mul]
theorem expect_own (c : Dev nD) (k : OK) : (Rd X W).expect (cell c (some k)) 0 = N := by
  unfold Schedule.expect Schedule.amountOf; rw [duties_own, Finset.sum_singleton, amount_own]

theorem rest_bar (c : Dev nD) : bigSep ((Rd X W).duties (barC c) 0 \ ∅) (fun d => (Rd X W).payload (barC c) 0 d) = iprop(barPay c false ∗ barPay (F := F) c true) := by
  rw [Finset.sdiff_empty, duties_bar, bigSep_univ_eq_bigSepL [false, true] (by decide) (by decide), bigSepL_cons_cons, bigSepL_singleton,
    payload_bar, payload_bar]
  rfl
theorem rest_snd (c : Dev nD) (h : Hop) : bigSep ((Rd X W).duties (sndC c h) 0 \ ∅) (fun d => (Rd X W).payload (sndC c h) 0 d) = sndPay X W c h := by
  rw [Finset.sdiff_empty, duties_own, bigSep_singleton, payload_snd]
theorem rest_rcv (c : Dev nD) (h : Hop) : bigSep ((Rd X W).duties (rcvC c h) 0 \ ∅) (fun d => (Rd X W).payload (rcvC c h) 0 d) = rcvPay X W c h := by
  rw [Finset.sdiff_empty, duties_own, bigSep_singleton, payload_rcv]

/-! ## What a device owes, and the levels -/

/-- The transfers in the kernel's order. -/
def hops : List Hop := slots.flatMap fun s => lanes.map fun a => (s, a)

/-- The credit device `c` owes for the transfers it has still to start. -/
def owe (c : Dev nD) (l : List Hop) : CellTallies nD τ sig Unit := (l.map fun h => tallyAt (rcvC (dstD h.2.2 c) h) () N).sum
theorem owe_cons (c : Dev nD) (h : Hop) (l : List Hop) : owe c (h :: l) = owe c l + tallyAt (rcvC (dstD h.2.2 c) h) () N := by
  unfold owe; rw [List.map_cons, List.sum_cons, add_comm]
theorem owe_nil (c : Dev nD) : owe c [] = 0 := rfl

/-- With one of the neighbours' barrier cells still to signal, and with both. -/
def O₁ (c : Dev nD) : CellTallies nD τ sig Unit := owe c hops + tallyAt (barC (srcD true c)) () 1
def O₀ (c : Dev nD) : CellTallies nD τ sig Unit := O₁ c + tallyAt (barC (srcD false c)) () 1

def L (g : GSem nD τ sig) : Finset Unit := if g.1.2 = .tc then {()} else ∅
def lvOf : Option CK → ℕ
  | some none => 1
  | some (some (true, h)) => 2 + h.1.val
  | _ => 0
/-- Barrier cells at 1, the receive cells of slot `s` at `s + 2`, everything else at 0. -/
def lv (g : GSem nD τ sig) (_ : Unit) : ℕ := lvOf (decode g.2)
theorem L_of_ne (g : GSem nD τ sig) (h : g.1.2 ≠ .tc) : L g = ∅ := if_neg h
theorem L_tc (c : Dev nD) (q : SemLoc sig) : L ((c : Thread nD τ), q) = {()} := if_pos rfl
theorem lv_cell (c : Dev nD) (k : CK) : lv (cell c k) () = lvOf (some k) := by
  show lvOf (decode (csem k)) = _; rw [decode_csem]

theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

theorem owe_pos {c : Dev nD} {l : List Hop} {g : GSem nD τ sig} {u : Unit} (h : 0 < owe c l g u) : ∃ p ∈ l, g = rcvC (dstD p.2.2 c) p := by
  induction l with
  | nil => exact absurd h (Nat.lt_irrefl 0)
  | cons p l ih =>
    rw [owe_cons, Pi.add_apply, Finsupp.add_apply] at h
    rcases Nat.add_pos_iff_pos_or_pos.mp h with h | h
    · obtain ⟨p', hp, e⟩ := ih h; exact ⟨p', List.mem_cons_of_mem _ hp, e⟩
    · exact ⟨p, List.mem_cons_self, tally_pos h⟩

theorem O₀_pos {c : Dev nD} {g : GSem nD τ sig} {u : Unit} (h : 0 < O₀ c g u) : ∃ c' k, g = cell c' k ∧ 0 < lvOf (some k) := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨p, -, e⟩ := owe_pos h; exact ⟨_, _, e, by show 0 < 2 + _; omega⟩
    · exact ⟨_, _, tally_pos h, Nat.one_pos⟩
  · exact ⟨_, _, tally_pos h, Nat.one_pos⟩

/-- A wait on a cell below everything owed is allowed. -/
theorem mayWait_of (c : Dev nD) (q : SemLoc sig) (O : CellTallies nD τ sig Unit)
    (hO : ∀ g u, 0 < O g u → ∃ c' k, g = cell c' k ∧ lvOf (decode q) < lvOf (some k)) :
    (levAts L lv : sProp 𝕄) ⊢ MayWait (c : Thread nD τ) q () O :=
  MayOwe.of_cut (L := L) (lev := lv) (lvOf (decode q)) (fun p hp => by rw [Finset.mem_singleton.mp hp, L_tc]; exact Finset.mem_singleton_self _)
    (fun g u hg => by obtain ⟨c', k, rfl, -⟩ := hO g u hg; exact Finset.mem_singleton_self _)
    (fun p hp => by rw [Finset.mem_singleton.mp hp]; exact le_refl _)
    (fun g u hg => by obtain ⟨c', k, rfl, hk⟩ := hO g u hg; cases u; rw [lv_cell]; exact hk)

theorem decode_stage (q : DmaSem sig) (hq : ∀ k, osem k ≠ .dma q) : decode (.dma q) = none := by
  unfold decode
  rw [dif_neg]
  rintro ⟨_ | k, h⟩
  · cases h
  · exact hq k h

theorem mayWait_stage (c : Dev nD) (q : DmaSem sig) (hq : ∀ k, osem k ≠ .dma q) (O : CellTallies nD τ sig Unit) (hO : O = O₀ c ∨ O = 0) :
    (levAts L lv : sProp 𝕄) ⊢ MayWait (c : Thread nD τ) (.dma q) () O :=
  mayWait_of c _ O fun g u h => by
    rw [decode_stage q hq]
    rcases hO with rfl | rfl
    · exact O₀_pos h
    · exact absurd h (Nat.lt_irrefl 0)

theorem mayWait_bar (c : Dev nD) : (levAts L lv : sProp 𝕄) ⊢ MayWait (c : Thread nD τ) (csem none) () (owe c hops) :=
  mayWait_of c _ _ fun g u h => by
    obtain ⟨p, -, e⟩ := owe_pos h
    exact ⟨_, _, e, by rw [decode_csem]; show 1 < 2 + _; omega⟩

/-- Waiting for slot `s` to land is allowed while only later slots are owed. -/
theorem mayWait_rcv (c : Dev nD) (h : Hop) (l : List Hop) (hl : ∀ p ∈ l, h.1 < p.1) :
    (levAts L lv : sProp 𝕄) ⊢ MayWait (c : Thread nD τ) (csem (some (true, h))) () (owe c l) :=
  mayWait_of c _ _ fun g u h' => by
    obtain ⟨p, hp, e⟩ := owe_pos h'
    exact ⟨_, _, e, by rw [decode_csem]; show 2 + _ < 2 + _; have := hl p hp; omega⟩

end Cert.Ring

end
-- ==== Proof.Steps.lean ====
/-
One rule per kind of transfer step: start a transfer, wait for a landing, wait for a departure.
-/
module

public import proofs.«01_k».proof.Proof.Sched

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → VX F) (W : Dev nD → VW F)

/-! ## What everybody knows -/

/-- The invariants of all cells under their names, that all of them have reached round 0, and the levels. -/
def recs (K : Dev nD × CK → ℕ) : sProp 𝕄 :=
  iprop((bigSep Finset.univ fun ck : Dev nD × CK => cellInv ER (Rd X W) (K ck) (cell ck.1 ck.2))
    ∗ (bigSep Finset.univ fun ck : Dev nD × CK => reached ER (cell ck.1 ck.2) 0) ∗ levAts L lv)

instance recs_persistent (K : Dev nD × CK → ℕ) : BI.Persistent (recs X W K) := by unfold recs; infer_instance

variable (K : Dev nD × CK → ℕ)

theorem all_inv (c : Dev nD) (k : CK) :
    (bigSep Finset.univ fun ck : Dev nD × CK => (cellInv ER (Rd X W) (K ck) (cell ck.1 ck.2) : sProp 𝕄)) ⊢ cellInv ER (Rd X W) (K (c, k)) (cell c k) :=
  bigSep_elim (Φ := fun ck : Dev nD × CK => (cellInv ER (Rd X W) (K ck) (cell ck.1 ck.2) : sProp 𝕄)) (Finset.mem_univ (c, k))
theorem all_reached (c : Dev nD) (k : CK) :
    (bigSep Finset.univ fun ck : Dev nD × CK => (reached ER (cell ck.1 ck.2) 0 : sProp 𝕄)) ⊢ reached ER (cell c k) 0 :=
  bigSep_elim (Φ := fun ck : Dev nD × CK => (reached ER (cell ck.1 ck.2) 0 : sProp 𝕄)) (Finset.mem_univ (c, k))
theorem recs_inv (c : Dev nD) (k : CK) : recs X W K ⊢ cellInv ER (Rd X W) (K (c, k)) (cell c k) := by
  unfold recs; iintro ⟨H, -, -⟩; iapply (all_inv X W K c k); iexact H
theorem recs_reached (c : Dev nD) (k : CK) : recs X W K ⊢ (reached ER (cell c k) 0 : sProp 𝕄) := by
  unfold recs; iintro ⟨-, H, -⟩; iapply (all_reached c k); iexact H
theorem recs_lev : recs X W K ⊢ (levAts L lv : sProp 𝕄) := by
  unfold recs; iintro ⟨-, -, H⟩; iexact H

/-- Device `c` owes the transfers of the list. -/
def oweS (c : Dev nD) (l : List Hop) : sProp 𝕄 := iprop(∃ Ws, owes (c : Thread nD τ) (owe c l) Ws)

/-! ## Starting a transfer -/

/-- What starting a hop takes beside its source window: the destination window, and the two duties it will pay. -/
def ready (c : Dev nD) (h : Hop) : sProp 𝕄 :=
  iprop((∃ Y, has (dstD h.2.2 c) (winM (cM h.2.2) h.1 h.2.1) fullShare Y) ∗ dutyTok ER (sndC c h) 0 false ∗ dutyTok ER (rcvC (dstD h.2.2 c) h) 0 false)

theorem wp_send_raw (c : Dev nD) (s : Fin 6) (b : Fin 4) (δ : Bool) {hsc : (flatM (cM δ) s b).view.ref.isScScratch = false}
    {hsrc : (flatM (srcM δ s) (srcS s) b).view.WordExact} {hdst : (flatM (cM δ) s b).view.WordExact}
    {hsem : DmaTarget.Typed .vmem (.dma (semAt (rS δ) s b)) (.remote (Dev.tc (dstD δ c) : Thread nD τ) (flatM (cM δ) s b) (.dma (semAt (sS δ) s b)) hsc)}
    {k : PUnit → Pr F} {Q : PUnit → sProp 𝕄} (fs : Buf (Elt F) ((flatM (srcM δ s) (srcS s) b).view.loc (c : Thread nD τ)))
    (fd : Buf (Elt F) ((flatM (cM δ) s b).view.loc (dstD δ c : Thread nD τ)))
    (hfs : (winM (srcM δ s) (srcS s) b).view.read (Elt F) fs = sentV X W (b, δ) s.val c) (l : List Hop) (Ws : Waits sig Unit) :
    iprop(cellInv ER (Rd X W) (K (c, some (false, (s, (b, δ))))) (sndC c (s, (b, δ))) ∗ cellInv ER (Rd X W) (K (dstD δ c, some (true, (s, (b, δ))))) (rcvC (dstD δ c) (s, (b, δ)))
        ∗ ((flatM (srcM δ s) (srcS s) b).view.loc (c : Thread nD τ) ↦[(flatM (srcM δ s) (srcS s) b).view.set]{qOf s} fs)
        ∗ ((flatM (cM δ) s b).view.loc (dstD δ c : Thread nD τ) ↦[(flatM (cM δ) s b).view.set]{fullShare} fd)
        ∗ owes (c : Thread nD τ) (owe c ((s, (b, δ)) :: l)) Ws
        ∗ dutyTok ER (sndC c (s, (b, δ))) 0 false ∗ reached ER (sndC c (s, (b, δ))) 0
        ∗ dutyTok ER (rcvC (dstD δ c) (s, (b, δ))) 0 false ∗ reached ER (rcvC (dstD δ c) (s, (b, δ))) 0)
      ⊢ iprop(((cred (tallyAt (sndC c (s, (b, δ))) () N) ∗ owes (c : Thread nD τ) (owe c l) Ws) -∗ WP c (k ⟨⟩) Q)
          -∗ WP c (.op (.enqueueDma (flatM (srcM δ s) (srcS s) b) (.remote (Dev.tc (dstD δ c) : Thread nD τ) (flatM (cM δ) s b) (.dma (semAt (sS δ) s b)) hsc)
              (.dma (semAt (rS δ) s b)) hsrc hdst hsem) k) Q) :=
  Rounds.wp_send_pointsTo 𝒱₀ ER (Rd X W) (c : Thread nD τ) none (κ₁ := K (c, some (false, (s, (b, δ))))) (κ₂ := K (dstD δ c, some (true, (s, (b, δ)))))
    (c' := (dstD δ c : Thread nD τ)) (r₁ := 0) (r₂ := 0) (d₁ := false) (d₂ := false) (fs := fs) (fd := fd) (q := qOf s)
    (src := flatM (srcM δ s) (srcS s) b) (dst := flatM (cM δ) s b) (sS := .dma (semAt (sS δ) s b)) (sem := .dma (semAt (rS δ) s b))
    (by
      have h := duties_own X W c (false, (s, (b, δ)))
      exact h ▸ Finset.mem_singleton_self _)
    (by
      have h := duties_own X W (dstD δ c) (true, (s, (b, δ)))
      exact h ▸ Finset.mem_singleton_self _)
    () () N (credit_eq (cM δ) s b) (amount_own X W c (false, (s, (b, δ))) false) (amount_own X W (dstD δ c) (true, (s, (b, δ))) false) (owe c l) (owe_cons c (s, (b, δ)) l) (W := Ws)
    ((has_of_flat c (srcM δ s) (srcS s) b (qOf s) fs _ hfs).trans (Entails.of_eq (payload_snd X W c (s, (b, δ)) false).symm))
    ((has_of_flat (dstD δ c) (cM δ) s b fullShare _ _ ((land_read (cM δ) (srcM δ s) s (srcS s) b fd fs).trans hfs)).trans
      (Entails.of_eq ((show has (dstD δ c) (winM (cM δ) s b) fullShare (sentV X W (b, δ) s.val c) = rcvPay X W (dstD δ c) (s, (b, δ)) from by
        unfold rcvPay landV; rw [src_dst]).trans (payload_rcv X W (dstD δ c) (s, (b, δ)) false).symm)))

theorem wp_send_at (c n : Dev nD) (s : Fin 6) (b : Fin 4) (δ : Bool) (hn : n = dstD δ c) {hsc : (flatM (cM δ) s b).view.ref.isScScratch = false}
    {hsrc : (flatM (srcM δ s) (srcS s) b).view.WordExact} {hdst : (flatM (cM δ) s b).view.WordExact}
    {hsem : DmaTarget.Typed .vmem (.dma (semAt (rS δ) s b)) (.remote (Dev.tc n : Thread nD τ) (flatM (cM δ) s b) (.dma (semAt (sS δ) s b)) hsc)}
    {k : PUnit → Pr F} {Q : PUnit → sProp 𝕄} (l : List Hop) :
    iprop(recs X W K ∗ sndPay X W c (s, (b, δ)) ∗ ready c (s, (b, δ)) ∗ oweS c ((s, (b, δ)) :: l))
      ⊢ iprop(((cred (tallyAt (sndC c (s, (b, δ))) () N) ∗ oweS c l) -∗ WP c (k ⟨⟩) Q)
          -∗ WP c (.op (.enqueueDma (flatM (srcM δ s) (srcS s) b) (.remote (Dev.tc n : Thread nD τ) (flatM (cM δ) s b) (.dma (semAt (sS δ) s b)) hsc)
              (.dma (semAt (rS δ) s b)) hsrc hdst hsem) k) Q) := by
  subst hn
  unfold ready oweS
  iintro ⟨#HR, Hs, ⟨⟨%Y, Hd⟩, Ht1, Ht2⟩, ⟨%Ws, Ho⟩⟩ Hk
  ihave Hs' := (show sndPay X W c (s, (b, δ)) ⊢ iprop(∃ f, ⌜(winM (srcM δ s) (srcS s) b).view.read (Elt F) f = sentV X W (b, δ) s.val c⌝
      ∗ ((winM (srcM δ s) (srcS s) b).view.loc (c : Thread nD τ) ↦[(winM (srcM δ s) (srcS s) b).view.set]{qOf s} f)) from .rfl) $$ Hs
  icases Hs' with ⟨%fs, %hfs, Hs⟩
  ihave Hd' := (show has (dstD δ c) (winM (cM δ) s b) fullShare Y ⊢ iprop(∃ f, ⌜(winM (cM δ) s b).view.read (Elt F) f = Y⌝
      ∗ ((winM (cM δ) s b).view.loc (dstD δ c : Thread nD τ) ↦[(winM (cM δ) s b).view.set]{fullShare} f)) from .rfl) $$ Hd
  icases Hd' with ⟨%fd, -, Hd⟩
  rw [← flat_set, ← flat_set]
  iapply (wp_send_raw X W K c s b δ fs fd hfs l Ws (hsc := hsc) (hsrc := hsrc) (hdst := hdst) (hsem := hsem) (k := k) (Q := Q)) $$ [Hs Hd Ho Ht1 Ht2]
  · isplitr; · iapply (recs_inv X W K c (some (false, (s, (b, δ))))); iexact HR
    isplitr; · iapply (recs_inv X W K (dstD δ c) (some (true, (s, (b, δ))))); iexact HR
    isplitl [Hs]; · iexact Hs
    isplitl [Hd]; · iexact Hd
    isplitl [Ho]; · iexact Ho
    isplitl [Ht1]; · iexact Ht1
    isplitr; · iapply (recs_reached X W K c (some (false, (s, (b, δ))))); iexact HR
    isplitl [Ht2]; · iexact Ht2
    iapply (recs_reached X W K (dstD δ c) (some (true, (s, (b, δ))))); iexact HR
  iintro ⟨Hc, Ho⟩
  iapply Hk
  isplitl [Hc]; · iexact Hc
  iexists Ws; iexact Ho

/-- Starting hop `(s, b, δ)`. -/
theorem wp_send (c : Dev nD) (s : Fin 6) (b : Fin 4) (δ : Bool) (src : Memref sig .tc .vmem S6x256x512 .bf16) (hs : src.IsWhole) (s0 : Fin 6)
    (e1 : srcM δ s = src) (e2 : srcS s = s0) (l : List Hop) (p : Pr F) (Q : PUnit → sProp 𝕄) :
    iprop(recs X W K ∗ sndPay X W c (s, (b, δ)) ∗ ready c (s, (b, δ)) ∗ oweS c ((s, (b, δ)) :: l))
      ⊢ iprop(((cred (tallyAt (sndC c (s, (b, δ))) () N) ∗ oweS c l) -∗ WP c p Q) -∗ WP c (sendP c δ b src hs s0 s p) Q) := by
  subst e1 e2
  unfold sendP
  exact wp_send_at X W K c (peer c δ) s b δ (peer_eq c δ) (k := fun _ => p) (Q := Q) l

/-! ## Waiting -/

/-- What waiting for a landing takes: its credit and its turn. -/
def awaits (c : Dev nD) (h : Hop) : sProp 𝕄 := iprop(cred (tallyAt (rcvC c h) () N) ∗ atPos ER (rcvC c h) 0 ∅ 0)

theorem wp_wait_own (c : Dev nD) (k : OK) (w : TpuEff nD τ sig (Elt F) Λ₀ .tc PUnit)
    (hw : ∀ Kq : PUnit → sProp 𝕄, wpE (defs₀ (F := F)) 𝒱₀ (c : Thread nD τ) none Set.univ w Kq = waitSpec (c : Thread nD τ) Set.univ (osem k) N Kq)
    (l : List Hop) (hm : (levAts L lv : sProp 𝕄) ⊢ MayWait (c : Thread nD τ) (osem k) () (owe c l)) (p : Pr F) (Q : PUnit → sProp 𝕄) :
    iprop(recs X W K ∗ (cred (tallyAt (cell c (some k)) () N) ∗ atPos ER (cell c (some k)) 0 ∅ 0) ∗ oweS c l)
      ⊢ iprop(((atPos ER (cell c (some k)) 1 ∅ 0 ∗ (bigSep ((Rd X W).duties (cell c (some k)) 0 \ ∅) fun d => (Rd X W).payload (cell c (some k)) 0 d) ∗ oweS c l) -∗ WP c p Q)
          -∗ WP c (.op w fun _ => p) Q) := by
  unfold oweS
  iintro ⟨#HR, ⟨Hc, Ha⟩, ⟨%Ws, Ho⟩⟩ Hk
  iapply (Rounds.wp_wait_rest_token 𝒱₀ ER (Rd X W) (c : Thread nD τ) none (κ := K (c, some k)) (sm := osem k)
      hw (Set.mem_univ _) () (O := owe c l) (W := Ws) (R := 0) (m := 0) (T := ∅)
      ((Nat.zero_add _).trans (expect_own X W c k).symm)) $$ [Hc Ho Ha]
  · isplitr; · iapply (recs_inv X W K c (some k)); iexact HR
    isplitl [Hc]; · iexact Hc
    isplitl [Ho]; · iexact Ho
    isplitr; · iapply hm; iapply (recs_lev X W K); iexact HR
    iexact Ha
  iintro ⟨Ho, Ha, -, Hp⟩
  iapply Hk
  isplitl [Ha]; · iexact Ha
  isplitl [Hp]; · iexact Hp
  iexists _; iexact Ho

theorem wp_recv (c : Dev nD) (s : Fin 6) (b : Fin 4) (δ : Bool) (src : Memref sig .tc .vmem S6x256x512 .bf16) (hs : src.IsWhole) (s0 : Fin 6)
    (l : List Hop) (hl : ∀ p ∈ l, s < p.1) (p : Pr F) (Q : PUnit → sProp 𝕄) :
    iprop(recs X W K ∗ awaits c (s, (b, δ)) ∗ oweS c l)
      ⊢ iprop(((atPos ER (rcvC c (s, (b, δ))) 1 ∅ 0 ∗ has c (winM (cM δ) s b) fullShare (landV X W (b, δ) s.val c) ∗ oweS c l) -∗ WP c p Q)
          -∗ WP c (recvP δ b src hs s0 s p) Q) := by
  unfold recvP awaits
  iintro ⟨HR, Ha, Ho⟩ Hk
  have hw : ∀ Kq : PUnit → sProp 𝕄, wpE (defs₀ (F := F)) 𝒱₀ (c : Thread nD τ) none Set.univ
      (.waitDma2 (semAt (rS δ) s b) (flatM src s0 b) (flatM (cM δ) s b) (flat_exact src hs s0 b) (flat_exact (cM δ) (cM_whole δ) s b)) Kq
        = waitSpec (c : Thread nD τ) Set.univ (osem (true, (s, (b, δ)))) N Kq := fun Kq =>
    (wpE_waitDma2_eq 𝒱₀ (c : Thread nD τ) none Set.univ Kq).trans (by rw [credit_eq (cM δ) s b]; rfl)
  iapply (wp_wait_own X W K c (true, (s, (b, δ))) _ hw l (mayWait_rcv c (s, (b, δ)) l hl) p Q) $$ [HR Ha Ho]
  · isplitl [HR]; · iexact HR
    isplitl [Ha]; · iexact Ha
    iexact Ho
  iintro ⟨Ha, Hp, Ho⟩
  ihave Hp := (Entails.of_eq ((rest_rcv X W c (s, (b, δ))).trans (show rcvPay X W c (s, (b, δ)) = has c (winM (cM δ) s b) fullShare (landV X W (b, δ) s.val c) from rfl))) $$ Hp
  iapply Hk
  isplitl [Ha]; · iexact Ha
  isplitl [Hp]; · iexact Hp
  iexact Ho

/-- What waiting for a departure takes. -/
def flying (c : Dev nD) (h : Hop) : sProp 𝕄 := iprop(cred (tallyAt (sndC c h) () N) ∗ atPos ER (sndC c h) 0 ∅ 0)

theorem wp_sent (c : Dev nD) (s : Fin 6) (b : Fin 4) (δ : Bool) (src : Memref sig .tc .vmem S6x256x512 .bf16) (hs : src.IsWhole) (s0 : Fin 6)
    (p : Pr F) (Q : PUnit → sProp 𝕄) :
    iprop(recs X W K ∗ flying c (s, (b, δ)) ∗ oweS c [])
      ⊢ iprop(((atPos ER (sndC c (s, (b, δ))) 1 ∅ 0 ∗ sndPay X W c (s, (b, δ)) ∗ oweS c []) -∗ WP c p Q)
          -∗ WP c (sentP δ b src hs s0 s p) Q) := by
  unfold sentP flying
  iintro ⟨HR, Ha, Ho⟩ Hk
  have hw : ∀ Kq : PUnit → sProp 𝕄, wpE (defs₀ (F := F)) 𝒱₀ (c : Thread nD τ) none Set.univ
      (.waitDma2 (semAt (sS δ) s b) (flatM (cM δ) s b) (flatM src s0 b) (flat_exact (cM δ) (cM_whole δ) s b) (flat_exact src hs s0 b)) Kq
        = waitSpec (c : Thread nD τ) Set.univ (osem (false, (s, (b, δ)))) N Kq := fun Kq =>
    (wpE_waitDma2_eq 𝒱₀ (c : Thread nD τ) none Set.univ Kq).trans (by rw [credit_eq src s0 b]; rfl)
  iapply (wp_wait_own X W K c (false, (s, (b, δ))) _ hw [] (by rw [owe_nil, MayWait_zero]; iintro H; iempintro) p Q) $$ [HR Ha Ho]
  · isplitl [HR]; · iexact HR
    isplitl [Ha]; · iexact Ha
    iexact Ho
  iintro ⟨Ha, Hp, Ho⟩
  ihave Hp := (Entails.of_eq (rest_snd X W c (s, (b, δ)))) $$ Hp
  iapply Hk
  isplitl [Ha]; · iexact Ha
  isplitl [Hp]; · iexact Hp
  iexact Ho

end Cert.Ring

end
-- ==== Proof.Lanes.lean ====
/-
What each hop of a lane does to the windows it touches: the rules for one lane, and for a pass over all lanes.
-/
module

public import proofs.«01_k».proof.Proof.Steps

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → VX F) (W : Dev nD → VW F) (K : Dev nD × CK → ℕ)

/-! ## Windows -/

/-- A block of the result on device `c`. -/
abbrev blkM (j : Fin 4) (a : Lane) : Memref sig .tc .vmem S64x512 .f32 := oM.slice (rB j a) (fun _ => rfl)
abbrev blk (c : Dev nD) (j : Fin 4) (a : Lane) (V : Vec F S64x512 .f32) : sProp 𝕄 := has c (blkM j a) fullShare V
/-- A window of a staging buffer nothing is known of. -/
def free (c : Dev nD) (s : Fin 6) (a : Lane) : sProp 𝕄 := iprop(∃ Y, has c (winM (gM a.2) s a.1) fullShare Y)

theorem wp_loadO (c : Dev nD) (j : Fin 4) (a : Lane) (off : Fin 2 → Nat) (h : InbB off) (e : off = offB j a) (V : Vec F S64x512 .f32)
    (k : Vec F S64x512 .f32 → Pr F) (Q : PUnit → sProp 𝕄) :
    blk c j a V ⊢ iprop((blk c j a V -∗ WP c (k V) Q) -∗ WP c (loadO off h k) Q) := by
  subst e
  exact wp_load_has c (m := oM) (r := rB j a) (fun _ => rfl)

theorem wp_storeO (c : Dev nD) (j : Fin 4) (a : Lane) (off : Fin 2 → Nat) (h : InbB off) (e : off = offB j a) (V : Vec F S64x512 .f32) (v : Vec F S64x512 .f32)
    (p : Pr F) (Q : PUnit → sProp 𝕄) :
    blk c j a V ⊢ iprop((blk c j a v -∗ WP c p Q) -∗ WP c (storeO off h v p) Q) := by
  subst e
  unfold storeO
  iintro H Hk
  iapply (wp_store_has c (m := oM) (r := rB j a) (fun _ => rfl) (w := v)) $$ [H]
  · iexists V; iexact H
  iexact Hk

theorem wp_loadW (c : Dev nD) (m : Memref sig .tc .vmem S6x256x512 .bf16) (s : Fin 6) (b : Fin 4) (q : PosShare TreeShare) (V : Vec F S1x64x512 .bf16)
    (k : Vec F S1x64x512 .bf16 → Pr F) (Q : PUnit → sProp 𝕄) :
    has c (winM m s b) q V ⊢ iprop((has c (winM m s b) q V -∗ WP c (k V) Q) -∗ WP c (loadW m s b k) Q) :=
  wp_load_has c (m := m) (r := winR s b) (fun _ => rfl)

theorem wp_storeW (c : Dev nD) (m : Memref sig .tc .vmem S6x256x512 .bf16) (hm : m.IsWhole) (s : Fin 6) (b : Fin 4) (V v : Vec F S1x64x512 .bf16)
    (p : Pr F) (Q : PUnit → sProp 𝕄) :
    has c (winM m s b) fullShare V ⊢ iprop((has c (winM m s b) fullShare v -∗ WP c p Q) -∗ WP c (storeW m hm s b v p) Q) := by
  unfold storeW
  iintro H Hk
  iapply (wp_store_has c (m := m) (r := winR s b) (fun _ => rfl) (w := v)) $$ [H]
  · iexists V; iexact H
  iexact Hk

/-! ## The rest of a hop after its sum is known -/

/-- What a hop takes that sends from a staging window. -/
def sends (c : Dev nD) (h : Hop) : sProp 𝕄 := iprop(free c h.1 h.2 ∗ ready c h ∗ atPos ER (sndC c h) 0 ∅ 0)

theorem wp_stage (c : Dev nD) (s : Fin 6) (b : Fin 4) (δ : Bool) (e1 : srcM δ s = gM δ) (e2 : srcS s = s) (eq : qOf s = fullShare)
    (v : Vec F S1x64x512 .bf16) (ev : sentV X W (b, δ) s.val c = v) (l : List Hop) (p : Pr F) (Q : PUnit → sProp 𝕄) :
    iprop(recs X W K ∗ sends c (s, (b, δ)) ∗ oweS c ((s, (b, δ)) :: l))
      ⊢ iprop(((flying c (s, (b, δ)) ∗ oweS c l) -∗ WP c p Q)
          -∗ WP c (loadW (gM δ) s b fun _ => storeW (gM δ) (gM_whole δ) s b v <| sendP c δ b (gM δ) (gM_whole δ) s s p) Q) := by
  unfold sends free flying
  iintro ⟨HR, ⟨⟨%Y, Hg⟩, Hr, Ha⟩, Ho⟩ Hk
  iapply (wp_loadW c (gM δ) s b fullShare Y) $$ [Hg]; · iexact Hg
  iintro Hg
  iapply (wp_storeW c (gM δ) (gM_whole δ) s b Y v) $$ [Hg]; · iexact Hg
  iintro Hg
  iapply (wp_send X W K c s b δ (gM δ) (gM_whole δ) s e1 e2 l p Q) $$ [HR Hg Hr Ho]
  · isplitl [HR]; · iexact HR
    isplitl [Hg]
    · unfold sndPay
      rw [show has c (winM (srcM (s, (b, δ)).2.2 (s, (b, δ)).1) (srcS (s, (b, δ)).1) (s, (b, δ)).2.1) (qOf (s, (b, δ)).1) (sentV X W (s, (b, δ)).2 (s, (b, δ)).1.val c)
        = has c (winM (gM δ) s b) fullShare v from by
          show has c (winM (srcM δ s) (srcS s) b) (qOf s) (sentV X W (b, δ) s.val c) = _
          rw [e1, e2, eq, ev]]
      iexact Hg
    isplitl [Hr]; · iexact Hr
    iexact Ho
  iintro ⟨Hc, Ho⟩
  iapply Hk
  isplitl [Hc Ha]
  · isplitl [Hc]; · iexact Hc
    iexact Ha
  iexact Ho

/-! ## The lanes -/

/-- A landed slot: its turn is over, and the window holds what was sent. -/
def landed (c : Dev nD) (h : Hop) (q : PosShare TreeShare) : sProp 𝕄 :=
  iprop(atPos ER (rcvC c h) 1 ∅ 0 ∗ has c (winM (cM h.2.2) h.1 h.2.1) q (landV X W h.2 h.1.val c))

theorem lane_reduce (c : Dev nD) (a : Lane) (s : Fin 3) (s' s1 : Fin 6) (e1 : srcM a.2 s1 = gM a.2) (e2 : srcS s1 = s1) (eq : qOf s1 = fullShare)
    (ev : sentV X W a s1.val c = k0_pay15 (partV (X c) (W c) (chunkAt c a.2 s.val) a) (landV X W a s'.val c))
    (l : List Hop) (hl : ∀ p ∈ (s1, a) :: l, s' < p.1) (p : Pr F) (Q : PUnit → sProp 𝕄) :
    iprop(recs X W K ∗ (awaits c (s', a) ∗ blk c (chunkAt c a.2 s.val) a (partV (X c) (W c) (chunkAt c a.2 s.val) a) ∗ sends c (s1, a)) ∗ oweS c ((s1, a) :: l))
      ⊢ iprop((((landed X W c (s', a) fullShare ∗ (∃ V, blk c (chunkAt c a.2 s.val) a V) ∗ flying c (s1, a)) ∗ oweS c l) -∗ WP c p Q)
          -∗ WP c (reduceP c a.2 a.1 s' s1 (offS c s a) (offS_inb c s a) p) Q) := by
  obtain ⟨b, δ⟩ := a
  unfold reduceP
  iintro ⟨#HR, ⟨Hw, Hb, Hs⟩, Ho⟩ Hk
  iapply (wp_recv X W K c s' b δ (gM δ) (gM_whole δ) s' _ hl) $$ [Hw Ho]
  · isplitr; · iexact HR
    isplitl [Hw]; · iexact Hw
    iexact Ho
  iintro ⟨Ha, Hl, Ho⟩
  iapply (wp_loadO c _ (b, δ) _ (offS_inb c s (b, δ)) (offS_eq c s (b, δ))) $$ [Hb]; · iexact Hb
  iintro Hb
  iapply (wp_loadW c (cM δ) s' b fullShare) $$ [Hl]; · iexact Hl
  iintro Hl
  iapply (wp_loadO c _ (b, δ) _ (offS_inb c s (b, δ)) (offS_eq c s (b, δ))) $$ [Hb]; · iexact Hb
  iintro Hb
  iapply (wp_storeO c _ (b, δ) _ (offS_inb c s (b, δ)) (offS_eq c s (b, δ))) $$ [Hb]; · iexact Hb
  iintro Hb
  iapply (wp_stage X W K c s1 b δ e1 e2 eq _ ev l) $$ [Hs Ho]
  · isplitr; · iexact HR
    isplitl [Hs]; · iexact Hs
    iexact Ho
  iintro ⟨Hf, Ho⟩
  iapply Hk
  isplitr [Ho]
  · isplitl [Ha Hl]
    · unfold landed
      isplitl [Ha]; · iexact Ha
      iexact Hl
    isplitl [Hb]; · iexists _; iexact Hb
    iexact Hf
  iexact Ho

theorem lane_fin (c : Dev nD) (a : Lane) (l : List Hop) (hl : ∀ p ∈ (3, a) :: l, (2 : Fin 6) < p.1) (p : Pr F) (Q : PUnit → sProp 𝕄) :
    iprop(recs X W K ∗ (awaits c (2, a) ∗ blk c (chunkAt c a.2 3) a (partV (X c) (W c) (chunkAt c a.2 3) a) ∗ sends c (3, a)) ∗ oweS c ((3, a) :: l))
      ⊢ iprop((((landed X W c (2, a) fullShare ∗ blk c (chunkAt c a.2 3) a (outV X W a 3 c) ∗ flying c (3, a)) ∗ oweS c l) -∗ WP c p Q)
          -∗ WP c (finP c a.2 a.1 (offF c a) (offF_inb c a) p) Q) := by
  obtain ⟨b, δ⟩ := a
  unfold finP
  iintro ⟨#HR, ⟨Hw, Hb, Hs⟩, Ho⟩ Hk
  iapply (wp_recv X W K c 2 b δ (gM δ) (gM_whole δ) 2 _ hl) $$ [Hw Ho]
  · isplitr; · iexact HR
    isplitl [Hw]; · iexact Hw
    iexact Ho
  iintro ⟨Ha, Hl, Ho⟩
  iapply (wp_loadO c _ (b, δ) _ (offF_inb c (b, δ)) (offF_eq c (b, δ))) $$ [Hb]; · iexact Hb
  iintro Hb
  iapply (wp_loadW c (cM δ) 2 b fullShare) $$ [Hl]; · iexact Hl
  iintro Hl
  iapply (wp_loadO c _ (b, δ) _ (offF_inb c (b, δ)) (offF_eq c (b, δ))) $$ [Hb]; · iexact Hb
  iintro Hb
  iapply (wp_storeO c _ (b, δ) _ (offF_inb c (b, δ)) (offF_eq c (b, δ))) $$ [Hb]; · iexact Hb
  iintro Hb
  iapply (wp_stage X W K c 3 b δ rfl rfl rfl _ rfl l) $$ [Hs Ho]
  · isplitr; · iexact HR
    isplitl [Hs]; · iexact Hs
    iexact Ho
  iintro ⟨Hf, Ho⟩
  iapply Hk
  isplitr [Ho]
  · isplitl [Ha Hl]
    · unfold landed
      isplitl [Ha]; · iexact Ha
      iexact Hl
    isplitl [Hb]; · iexact Hb
    iexact Hf
  iexact Ho

/-- What a gathering hop takes to send on. -/
def forwards (c : Dev nD) (h : Hop) : sProp 𝕄 := iprop(ready c h ∗ atPos ER (sndC c h) 0 ∅ 0)

theorem lane_gather (c : Dev nD) (a : Lane) (t : Fin 3) (s' s1 : Fin 6) (e1 : srcM a.2 s1 = cM a.2) (e2 : srcS s1 = s') (eq : qOf s1 = fullShare.right)
    (ev : sentV X W a s1.val c = landV X W a s'.val c) (eo : outV X W a t.val c = k0_pay69 (landV X W a s'.val c))
    (l : List Hop) (hl : ∀ p ∈ (s1, a) :: l, s' < p.1) (p : Pr F) (Q : PUnit → sProp 𝕄) :
    iprop(recs X W K ∗ (awaits c (s', a) ∗ (∃ V, blk c (chunkAt c a.2 t.val) a V) ∗ forwards c (s1, a)) ∗ oweS c ((s1, a) :: l))
      ⊢ iprop((((landed X W c (s', a) fullShare.left ∗ blk c (chunkAt c a.2 t.val) a (outV X W a t.val c) ∗ flying c (s1, a)) ∗ oweS c l) -∗ WP c p Q)
          -∗ WP c (gatherP c a.2 a.1 (srcM a.2 s') (srcM_whole a.2 s') (srcS s') s' s1 (offS c t a) (offS_inb c t a) p) Q) := by
  obtain ⟨b, δ⟩ := a
  unfold gatherP forwards flying landed
  iintro ⟨#HR, ⟨Hw, ⟨%V, Hb⟩, ⟨Hr, Hp⟩⟩, Ho⟩ Hk
  iapply (wp_recv X W K c s' b δ (srcM δ s') (srcM_whole δ s') (srcS s') _ hl) $$ [Hw Ho]
  · isplitr; · iexact HR
    isplitl [Hw]; · iexact Hw
    iexact Ho
  iintro ⟨Ha, Hl, Ho⟩
  ihave Hl := (owns_halves (c : Thread nD τ) (winM (cM δ) s' b) fullShare (landV X W (b, δ) s'.val c)).1 $$ Hl
  icases Hl with ⟨Hl, Hl2⟩
  iapply (wp_send X W K c s1 b δ (cM δ) (cM_whole δ) s' e1 e2 l) $$ [Hl2 Hr Ho]
  · isplitr; · iexact HR
    isplitl [Hl2]
    · unfold sndPay
      rw [show has c (winM (srcM (s1, (b, δ)).2.2 (s1, (b, δ)).1) (srcS (s1, (b, δ)).1) (s1, (b, δ)).2.1) (qOf (s1, (b, δ)).1) (sentV X W (s1, (b, δ)).2 (s1, (b, δ)).1.val c)
        = has c (winM (cM δ) s' b) fullShare.right (landV X W (b, δ) s'.val c) from by
          show has c (winM (srcM δ s1) (srcS s1) b) (qOf s1) (sentV X W (b, δ) s1.val c) = _
          rw [e1, e2, eq, ev]]
      iexact Hl2
    isplitl [Hr]; · iexact Hr
    iexact Ho
  iintro ⟨Hc, Ho⟩
  iapply (wp_loadW c (cM δ) s' b fullShare.left) $$ [Hl]; · iexact Hl
  iintro Hl
  iapply (wp_loadO c _ (b, δ) _ (offS_inb c t (b, δ)) (offS_eq c t (b, δ))) $$ [Hb]; · iexact Hb
  iintro Hb
  iapply (wp_storeO c _ (b, δ) _ (offS_inb c t (b, δ)) (offS_eq c t (b, δ))) $$ [Hb]; · iexact Hb
  iintro Hb
  iapply Hk
  isplitr [Ho]
  · isplitl [Ha Hl]
    · isplitl [Ha]; · iexact Ha
      iexact Hl
    isplitl [Hb]; · rw [eo]; iexact Hb
    isplitl [Hc]; · iexact Hc
    iexact Hp
  iexact Ho

theorem lane_last (c : Dev nD) (a : Lane) (l : List Hop) (hl : ∀ p ∈ l, (5 : Fin 6) < p.1) (p : Pr F) (Q : PUnit → sProp 𝕄) :
    iprop(recs X W K ∗ (awaits c (5, a) ∗ (∃ V, blk c (chunkAt c a.2 2) a V)) ∗ oweS c l)
      ⊢ iprop((((landed X W c (5, a) fullShare ∗ blk c (chunkAt c a.2 2) a (outV X W a 2 c)) ∗ oweS c l) -∗ WP c p Q)
          -∗ WP c (lastP a.2 a.1 (offS c 2 a) (offS_inb c 2 a) p) Q) := by
  obtain ⟨b, δ⟩ := a
  unfold lastP landed
  iintro ⟨HR, ⟨Hw, ⟨%V, Hb⟩⟩, Ho⟩ Hk
  iapply (wp_recv X W K c 5 b δ (cM δ) (cM_whole δ) 4 _ hl) $$ [HR Hw Ho]
  · isplitl [HR]; · iexact HR
    isplitl [Hw]; · iexact Hw
    iexact Ho
  iintro ⟨Ha, Hl, Ho⟩
  iapply (wp_loadW c (cM δ) 5 b fullShare) $$ [Hl]; · iexact Hl
  iintro Hl
  iapply (wp_loadO c _ (b, δ) _ (offS_inb c 2 (b, δ)) (offS_eq c 2 (b, δ))) $$ [Hb]; · iexact Hb
  iintro Hb
  iapply (wp_storeO c _ (b, δ) _ (offS_inb c 2 (b, δ)) (offS_eq c 2 (b, δ))) $$ [Hb]; · iexact Hb
  iintro Hb
  iapply Hk
  isplitr [Ho]
  · isplitl [Ha Hl]
    · isplitl [Ha]; · iexact Ha
      iexact Hl
    iexact Hb
  iexact Ho

end Cert.Ring

end
-- ==== Proof.Chunks.lean ====
/-
The products: what a store of a chunk leaves, the four chunks stored, and the result cut into its blocks.
-/
module

public import proofs.«01_k».proof.Proof.Lanes

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Loads and stores within a memref held whole -/

theorem wp_load_in (c : Dev nD) {cs : CoreSpace} {s : Shape} {e : EltTy} {m : Memref sig .tc cs s e} {r : Rect s}
    {hl : m.view.LoadsAt r.toLoadRect} {k : (r.shape.Idx → Elt F e) → Pr F} {q : PosShare TreeShare} {Z : s.Idx → Elt F e} {Q : PUnit → sProp 𝕄} :
    has c m q Z ⊢ iprop((has c m q Z -∗ WP c (k fun i => Z (r.emb i)) Q) -∗ WP c (.op (.load m r.toLoadRect hl) k) Q) := by
  unfold has owns
  iintro ⟨%f, %hf, H⟩ Hk
  iapply (wp_load_rect 𝒱₀ (c : Thread nD τ) none Set.univ (m := m) (r := r) (f := f) (by rw [View.set_slice, View.set]; exact Finset.map_subset_map.mpr (Finset.subset_univ _))) $$ H
  iintro H
  rw [show (m.access r).read (Elt F) f = fun i => Z (r.emb i) from by rw [← hf]; rfl]
  iapply Hk
  iexists f
  isplitr; · ipureintro; exact hf
  iexact H

theorem wp_store_in (c : Dev nD) {cs : CoreSpace} {s : Shape} {e : EltTy} {m : Memref sig .tc cs s e} {r : Rect s}
    {w : r.shape.Idx → Elt F e} {hx : (m.access r).Stores Finset.univ} {hm : (Finset.univ : Finset r.shape.Idx) = Finset.univ ∨ ∀ a, r.stride a = 1}
    {k : PUnit → Pr F} {Z : s.Idx → Elt F e} {Q : PUnit → sProp 𝕄} :
    has c m fullShare Z ⊢ iprop(((∃ Z', ⌜(∀ i, Z' (r.emb i) = w i) ∧ ∀ y, y ∉ r.set → Z' y = Z y⌝ ∗ has c m fullShare Z') -∗ WP c (k ⟨⟩) Q)
      -∗ WP c (.op (.store m r w Finset.univ hx hm) k) Q) := by
  unfold has owns
  iintro ⟨%f, %hf, H⟩ Hk
  iapply (wp_store 𝒱₀ (c : Thread nD τ) none Set.univ (m := m) (r := r) (Mk := Finset.univ) (f := f)
    (by rw [View.setOn_univ, View.set_slice, View.set]; exact Finset.map_subset_map.mpr (Finset.subset_univ _))) $$ H
  iintro H
  iapply Hk
  iexists (m.view.read (Elt F) ((m.access r).write (Elt F) f w Finset.univ))
  isplitr
  · ipureintro
    refine ⟨fun i => View.read_writes_cons_emb m.view f r w [] i, fun y hy => ?_⟩
    refine (View.read_writes_cons_miss m.view f ⟨r, w⟩ [] y hy).trans (congrFun hf y)
  iexists ((m.access r).write (Elt F) f w Finset.univ)
  isplitr; · ipureintro; rfl
  iexact H

/-! ## The chunks -/

/-- The result buffer holds chunk `j` of the product. -/
def Has (X : VX F) (W : VW F) (Z : S1024x1024.Idx → Elt F .f32) (j : Fin 4) : Prop := ∀ i, Z ((rO j).emb i) = chunkV X W j i

theorem rO_apart (j j' : Fin 4) (h : j ≠ j') (i : S256x1024.Idx) : (rO j).emb i ∉ (rO j').set := by
  intro hm
  have h0 := (Rect.mem_set_unit.mp hm) 0
  have hi : (((rO j).emb i 0 : Fin _) : Nat) = 256 * j.val + 1 * (i 0).val := Rect.emb_apply _ _ _
  have h1 : (i 0).val < 256 := (i 0).isLt
  rw [hi] at h0
  have h2 : 256 * j'.val ≤ 256 * j.val + 1 * (i 0).val ∧ 256 * j.val + 1 * (i 0).val < 256 * j'.val + 256 := h0
  exact h (Fin.ext (by omega))

theorem off1_eq (d : Dev nD) : k0_off1 d = ![256 * (chunkAt d true 0).val, 0] := by revert d; decide +kernel
theorem off2_eq (d : Dev nD) : k0_off2 d = ![256 * (chunkAt d true 0).val, 0] := by revert d; decide +kernel
theorem off5_eq (d : Dev nD) (r : Fin 3) : k0_off5 d (BitVec.ofNat 32 (1 + r.val)) = ![256 * (chunkAt d true (1 + r.val)).val, 0] := by revert d r; decide +kernel
theorem off6_eq (d : Dev nD) (r : Fin 3) : k0_off6 d (BitVec.ofNat 32 (1 + r.val)) = ![256 * (chunkAt d true (1 + r.val)).val, 0] := by revert d r; decide +kernel

variable (X : Dev nD → VX F) (W : Dev nD → VW F)

/-- The operands and the result buffer, the result holding the chunks of the list. -/
def work (c : Dev nD) (l : List (Fin 4)) : sProp 𝕄 :=
  iprop(has c xM fullShare (X c) ∗ has c wM fullShare (W c) ∗ ∃ Z, ⌜∀ j ∈ l, Has (X c) (W c) Z j⌝ ∗ has c oM fullShare Z)

theorem wp_gemm (c : Dev nD) (j : Fin 4) (l : List (Fin 4)) (hj : j ∉ l) (offX offO : Fin 2 → Nat) (hX : InbX offX) (hO : InbO offO)
    (eX : offX = ![256 * j.val, 0]) (eO : offO = ![256 * j.val, 0]) (p : Pr F) (Q : PUnit → sProp 𝕄) :
    work X W c l ⊢ iprop((work X W c (j :: l) -∗ WP c p Q) -∗ WP c (gemmP offX offO hX hO p) Q) := by
  subst eX eO
  unfold work gemmP
  iintro ⟨Hx, Hw, ⟨%Z, %hZ, Ho⟩⟩ Hk
  iapply (wp_load_in c (m := xM) (r := rX j)) $$ Hx
  iintro Hx
  iapply (wp_load_in c (m := wM) (r := rW)) $$ Hw
  iintro Hw
  iapply (wp_load_in c (m := oM) (r := rO j)) $$ Ho
  iintro Ho
  iapply (wp_store_in c (m := oM) (r := rO j) (w := k0_pay1 (fun i => X c ((rX j).emb i)) (fun i => W c (rW.emb i)))) $$ Ho
  iintro ⟨%Z', %hZ', Ho⟩
  iapply Hk
  isplitl [Hx]; · iexact Hx
  isplitl [Hw]; · iexact Hw
  iexists Z'
  isplitr
  · ipureintro
    intro j' hm
    rcases List.mem_cons.mp hm with e | hm
    · subst e; exact hZ'.1
    · intro i
      rw [hZ'.2 _ (rO_apart j' j (fun e => hj (e ▸ hm)) i)]
      exact hZ j' hm i
  iexact Ho

/-! ## The blocks -/

theorem rB_emb (j : Fin 4) (a : Lane) (i : S64x512.Idx) : (rB j a).emb i = (rO j).emb ((rC a).emb i) := by
  funext k
  refine Fin.ext ?_
  refine (Rect.emb_apply _ _ _).trans ?_
  refine Eq.trans ?_ (Rect.emb_apply _ _ _).symm
  have h : (((rC a).emb i k : Fin _) : Nat) = (rC a).off k + (rC a).stride k * (i k).val := Rect.emb_apply _ _ _
  rw [h]
  match k with
  | ⟨0, _⟩ => show 256 * j.val + 64 * a.1.val + 1 * (i 0).val = 256 * j.val + 1 * (64 * a.1.val + 1 * (i 0).val); omega
  | ⟨1, _⟩ => show 512 * a.2.toNat + 1 * (i 1).val = 0 + 1 * (512 * a.2.toNat + 1 * (i 1).val); omega

theorem part_of_has {X : VX F} {W : VW F} {Z : S1024x1024.Idx → Elt F .f32} {j : Fin 4} (h : Has X W Z j) (a : Lane) :
    (fun i => Z ((rB j a).emb i)) = partV X W j a := by
  funext i; rw [rB_emb]; exact h _

/-- The blocks of the result: chunk, then lane. -/
abbrev rT (t : Fin 4 × Lane) : Rect S1024x1024 := rB t.1 t.2

theorem rT_disj (t t' : Fin 4 × Lane) (h : t ≠ t') : Disjoint (rT t).set (rT t').set := by
  rw [Finset.disjoint_left]
  intro y hy hy'
  have a0 := (Rect.mem_set_unit.mp hy) 0
  have a1 := (Rect.mem_set_unit.mp hy) 1
  have b0 := (Rect.mem_set_unit.mp hy') 0
  have b1 := (Rect.mem_set_unit.mp hy') 1
  obtain ⟨j, b, δ⟩ := t
  obtain ⟨j', b', δ'⟩ := t'
  change 256 * j.val + 64 * b.val ≤ (y 0).val ∧ (y 0).val < 256 * j.val + 64 * b.val + 64 at a0
  change 256 * j'.val + 64 * b'.val ≤ (y 0).val ∧ (y 0).val < 256 * j'.val + 64 * b'.val + 64 at b0
  change 512 * δ.toNat ≤ (y 1).val ∧ (y 1).val < 512 * δ.toNat + 512 at a1
  change 512 * δ'.toNat ≤ (y 1).val ∧ (y 1).val < 512 * δ'.toNat + 512 at b1
  have hb := b.isLt; have hb' := b'.isLt
  have e1 : j = j' := Fin.ext (by omega)
  have e2 : b = b' := Fin.ext (by omega)
  have e3 : δ = δ' := by
    have : δ.toNat = δ'.toNat := by omega
    cases δ <;> cases δ' <;> first | rfl | exact absurd this (by decide)
  exact h (by rw [e1, e2, e3])

theorem rT_cover : (Finset.univ.biUnion fun t => (rT t).set) = (Finset.univ : Finset S1024x1024.Idx) := by
  rw [Finset.eq_univ_iff_forall]
  intro y
  have h0 : (y 0).val < 1024 := (y 0).isLt
  have h1 : (y 1).val < 1024 := (y 1).isLt
  rw [Finset.mem_biUnion]
  refine ⟨(⟨(y 0).val / 256, by omega⟩, ⟨(y 0).val % 256 / 64, by omega⟩, decide (512 ≤ (y 1).val)), Finset.mem_univ _, Rect.mem_set_unit.mpr fun k => ?_⟩
  match k with
  | ⟨0, _⟩ =>
    show 256 * ((y 0).val / 256) + 64 * ((y 0).val % 256 / 64) ≤ (y 0).val ∧ (y 0).val < 256 * ((y 0).val / 256) + 64 * ((y 0).val % 256 / 64) + 64
    omega
  | ⟨1, _⟩ =>
    show 512 * (decide (512 ≤ (y 1).val)).toNat ≤ (y 1).val ∧ (y 1).val < 512 * (decide (512 ≤ (y 1).val)).toNat + 512
    by_cases h : 512 ≤ (y 1).val
    · rw [decide_eq_true h]; show 512 * 1 ≤ _ ∧ _ < 512 * 1 + 512; omega
    · rw [decide_eq_false h]; show 512 * 0 ≤ _ ∧ _ < 512 * 0 + 512; omega

/-- The result whole, all chunks done, is its blocks. -/
theorem out_split (c : Dev nD) (Z : S1024x1024.Idx → Elt F .f32) (h : ∀ j, Has (X c) (W c) Z j) :
    has c oM fullShare Z ⊢ bigSep Finset.univ fun t : Fin 4 × Lane => blk c t.1 t.2 (partV (X c) (W c) t.1 t.2) := by
  refine (owns_rects (c : Thread nD τ) oM fullShare rT (fun _ _ => rfl) rT_disj rT_cover Z).trans (Entails.of_eq ?_)
  refine congrArg _ (funext fun t => ?_)
  show has c (oM.slice (rB t.1 t.2) _) fullShare (fun i => Z ((rB t.1 t.2).emb i)) = _
  rw [part_of_has (h t.1) t.2]

/-- The blocks are the result whole. -/
theorem out_join (c : Dev nD) (Z : S1024x1024.Idx → Elt F .f32) (V : Fin 4 → Lane → Vec F S64x512 .f32) (h : ∀ j a i, Z ((rB j a).emb i) = V j a i) :
    (bigSep Finset.univ fun t : Fin 4 × Lane => blk c t.1 t.2 (V t.1 t.2)) ⊢ has c oM fullShare Z := by
  refine (Entails.of_eq (congrArg _ (funext fun t => ?_))).trans (owns_of_rects (c : Thread nD τ) oM fullShare rT (fun _ _ => rfl) rT_disj rT_cover Z)
  show has c (oM.slice (rB t.1 t.2) _) fullShare (V t.1 t.2) = has c (oM.slice (rB t.1 t.2) _) fullShare (fun i => Z ((rB t.1 t.2).emb i))
  rw [show (fun i => Z ((rB t.1 t.2).emb i)) = V t.1 t.2 from funext (h t.1 t.2)]

end Cert.Ring

end
-- ==== Proof.Passes.lean ====
/-
The passes over the lanes, one after the other.
-/
module

public import proofs.«01_k».proof.Proof.Chunks

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Going through a list -/

/-- Resources one per element of a list. -/
def sepL {α : Type} (P : α → sProp 𝕄) : List α → sProp 𝕄
  | [] => iprop(emp)
  | a :: l => iprop(P a ∗ sepL P l)

theorem sepL_eq {α : Type} [DecidableEq α] (P : α → sProp 𝕄) : ∀ l : List α, l.Nodup → bigSep l.toFinset P = sepL P l
  | [], _ => rfl
  | a :: l, h => by
    have hn : a ∉ l.toFinset := by rw [List.mem_toFinset]; exact (List.nodup_cons.mp h).1
    rw [List.toFinset_cons, bigSep_insert hn, sepL_eq P l (List.nodup_cons.mp h).2]; rfl

theorem sep_lanes (P : Lane → sProp 𝕄) : bigSep Finset.univ P = sepL P lanes := by
  rw [← sepL_eq P lanes (by decide)]; exact congrArg (fun t => bigSep t P) (by decide)
theorem sep_slots (P : Fin 6 → sProp 𝕄) : bigSep Finset.univ P = sepL P slots := by
  rw [← sepL_eq P slots (by decide)]; exact congrArg (fun t => bigSep t P) (by decide)

variable (X : Dev nD → VX F) (W : Dev nD → VW F) (K : Dev nD × CK → ℕ)

/-- A program for each element of a list, a state that goes through, and a resource of each turned into another. -/
theorem wp_seqL {α : Type} (c : Dev nD) (f : α → Pr F → Pr F) (P R : α → sProp 𝕄) (St : List α → sProp 𝕄)
    (hstep : ∀ a l p (Q : PUnit → sProp 𝕄), iprop(recs X W K ∗ P a ∗ St (a :: l)) ⊢ iprop(((R a ∗ St l) -∗ WP c p Q) -∗ WP c (f a p) Q))
    (p : Pr F) (Q : PUnit → sProp 𝕄) : ∀ l : List α,
    iprop(recs X W K ∗ sepL P l ∗ St l) ⊢ iprop(((sepL R l ∗ St []) -∗ WP c p Q) -∗ WP c (seqL f l p) Q)
  | [] => by
    unfold sepL seqL
    iintro ⟨-, -, Hs⟩ Hk
    iapply Hk
    isplitr; · iempintro
    iexact Hs
  | a :: l => by
    unfold sepL seqL
    iintro ⟨#HR, ⟨Ha, Hl⟩, Hs⟩ Hk
    iapply (hstep a l _ Q) $$ [Ha Hs]
    · isplitr; · iexact HR
      isplitl [Ha]; · iexact Ha
      iexact Hs
    iintro ⟨Ha, Hs⟩
    iapply (wp_seqL c f P R St hstep p Q l) $$ [Hl Hs]
    · isplitr; · iexact HR
      isplitl [Hl]; · iexact Hl
      iexact Hs
    iintro ⟨Hl, Hs⟩
    iapply Hk
    isplitr [Hs]
    · isplitl [Ha]; · iexact Ha
      iexact Hl
    iexact Hs

/-- The same over the lanes. -/
theorem wp_lanes (c : Dev nD) (f : Lane → Pr F → Pr F) (P R : Lane → sProp 𝕄) (St : List Lane → sProp 𝕄)
    (hstep : ∀ a l p (Q : PUnit → sProp 𝕄), iprop(recs X W K ∗ P a ∗ St (a :: l)) ⊢ iprop(((R a ∗ St l) -∗ WP c p Q) -∗ WP c (f a p) Q))
    (p : Pr F) (Q : PUnit → sProp 𝕄) :
    iprop(recs X W K ∗ bigSep Finset.univ P ∗ St lanes) ⊢ iprop(((bigSep Finset.univ R ∗ St []) -∗ WP c p Q) -∗ WP c (seqL f lanes p) Q) := by
  rw [sep_lanes, sep_lanes]; exact wp_seqL X W K c f P R St hstep p Q lanes

/-! ## The passes -/

/-- The transfers from slot `k` on. -/
def rest (k : Nat) : List Hop := (slots.drop k).flatMap fun s => lanes.map fun a => (s, a)
theorem rest_zero : hops = lanes.map (fun a => ((0 : Fin 6), a)) ++ rest 1 := rfl
theorem rest_one : rest 1 = lanes.map (fun a => ((1 : Fin 6), a)) ++ rest 2 := rfl
theorem rest_two : rest 2 = lanes.map (fun a => ((2 : Fin 6), a)) ++ rest 3 := rfl
theorem rest_three : rest 3 = lanes.map (fun a => ((3 : Fin 6), a)) ++ rest 4 := rfl
theorem rest_four : rest 4 = lanes.map (fun a => ((4 : Fin 6), a)) ++ rest 5 := rfl
theorem rest_five : rest 5 = lanes.map (fun a => ((5 : Fin 6), a)) ++ rest 6 := rfl
theorem rest_six : rest 6 = [] := rfl

theorem above (s s1 : Fin 6) (k : Nat) (h : s < s1) (hr : ∀ p ∈ rest k, s < p.1) (a : Lane) (l : List Lane) :
    ∀ p ∈ (s1, a) :: (l.map (fun a => (s1, a)) ++ rest k), s < p.1 := by
  intro p hp
  rcases List.mem_cons.mp hp with e | hp
  · subst e; exact h
  rcases List.mem_append.mp hp with hp | hp
  · obtain ⟨a', -, rfl⟩ := List.mem_map.mp hp; exact h
  · exact hr p hp

/-- Still to start in slot `s`: the lanes of the list, then all later slots. -/
def left (c : Dev nD) (s : Fin 6) (k : Nat) (l : List Lane) : sProp 𝕄 := oweS c (l.map (fun a => (s, a)) ++ rest k)

theorem chunkAt_zero (c : Dev nD) (δ : Bool) : chunkAt c δ 0 = chunkAt c true 0 := by revert c δ; decide

theorem wp_loadO_in (c : Dev nD) (j : Fin 4) (a : Lane) (off : Fin 2 → Nat) (h : InbB off) (e : off = offB j a) (Z : S1024x1024.Idx → Elt F .f32)
    (hZ : Has (X c) (W c) Z j) (k : Vec F S64x512 .f32 → Pr F) (Q : PUnit → sProp 𝕄) :
    has c oM fullShare Z ⊢ iprop((has c oM fullShare Z -∗ WP c (k (partV (X c) (W c) j a)) Q) -∗ WP c (loadO off h k) Q) := by
  subst e
  rw [← part_of_has hZ a]
  exact wp_load_in c (m := oM) (r := rB j a) (k := k)

theorem pass0_spec (c : Dev nD) (p : Pr F) (Q : PUnit → sProp 𝕄) :
    iprop(recs X W K ∗ (bigSep Finset.univ fun a : Lane => sends c (0, a)) ∗ work X W c [chunkAt c true 0] ∗ left c 0 1 lanes)
      ⊢ iprop((((bigSep Finset.univ fun a : Lane => flying c (0, a)) ∗ work X W c [chunkAt c true 0] ∗ oweS c (rest 1)) -∗ WP c p Q) -∗ WP c (pass0 c p) Q) := by
  refine wp_lanes X W K c _ (fun a => sends c (0, a)) (fun a => flying c (0, a)) (fun l => iprop(work X W c [chunkAt c true 0] ∗ left c 0 1 l)) ?_ p Q
  rintro ⟨b, δ⟩ l p Q
  unfold work firstP left
  iintro ⟨#HR, Hs, ⟨Hx, Hw, ⟨%Z, %hZ, Ho⟩⟩, Hl⟩ Hk
  have hZ' : Has (X c) (W c) Z (chunkAt c δ 0) := by
    rw [chunkAt_zero]; exact hZ _ (List.mem_singleton_self _)
  iapply (wp_loadO_in X W c _ (b, δ) _ (off0_inb c (b, δ)) (off0_eq c (b, δ)) Z hZ') $$ [Ho]; · iexact Ho
  iintro Ho
  iapply (wp_stage X W K c 0 b δ rfl rfl rfl _ rfl (l.map (fun a => ((0 : Fin 6), a)) ++ rest 1)) $$ [Hs Hl]
  · isplitr; · iexact HR
    isplitl [Hs]; · iexact Hs
    iexact Hl
  iintro ⟨Hf, Hl⟩
  iapply Hk
  isplitl [Hf]; · iexact Hf
  isplitr [Hl]
  · isplitl [Hx]; · iexact Hx
    isplitl [Hw]; · iexact Hw
    iexists Z
    isplitr; · ipureintro; exact hZ
    iexact Ho
  iexact Hl

theorem passR_spec (c : Dev nD) (s : Fin 3) (s' s1 : Fin 6) (k : Nat) (e1 : ∀ δ, srcM δ s1 = gM δ) (e2 : srcS s1 = s1) (eq : qOf s1 = fullShare)
    (ev : ∀ a, sentV X W a s1.val c = k0_pay15 (partV (X c) (W c) (chunkAt c a.2 s.val) a) (landV X W a s'.val c))
    (h : s' < s1) (hr : ∀ p ∈ rest k, s' < p.1) (p : Pr F) (Q : PUnit → sProp 𝕄) :
    iprop(recs X W K ∗ (bigSep Finset.univ fun a : Lane => iprop(awaits c (s', a) ∗ blk c (chunkAt c a.2 s.val) a (partV (X c) (W c) (chunkAt c a.2 s.val) a) ∗ sends c (s1, a))) ∗ left c s1 k lanes)
      ⊢ iprop((((bigSep Finset.univ fun a : Lane => iprop(landed X W c (s', a) fullShare ∗ (∃ V, blk c (chunkAt c a.2 s.val) a V) ∗ flying c (s1, a))) ∗ oweS c (rest k)) -∗ WP c p Q)
          -∗ WP c (passR c s s' s1 p) Q) :=
  wp_lanes X W K c _ _ _ (left c s1 k) (fun a l p Q => lane_reduce X W K c a s s' s1 (e1 a.2) e2 eq (ev a) _ (above s' s1 k h hr a l) p Q) p Q

theorem passF_spec (c : Dev nD) (p : Pr F) (Q : PUnit → sProp 𝕄) :
    iprop(recs X W K ∗ (bigSep Finset.univ fun a : Lane => iprop(awaits c (2, a) ∗ blk c (chunkAt c a.2 3) a (partV (X c) (W c) (chunkAt c a.2 3) a) ∗ sends c (3, a))) ∗ left c 3 4 lanes)
      ⊢ iprop((((bigSep Finset.univ fun a : Lane => iprop(landed X W c (2, a) fullShare ∗ blk c (chunkAt c a.2 3) a (outV X W a 3 c) ∗ flying c (3, a))) ∗ oweS c (rest 4)) -∗ WP c p Q)
          -∗ WP c (passF c p) Q) :=
  wp_lanes X W K c _ _ _ (left c 3 4) (fun a l p Q => lane_fin X W K c a _ (above 2 3 4 (by decide) (by decide) a l) p Q) p Q

theorem passG_spec (c : Dev nD) (t : Fin 3) (s' s1 : Fin 6) (k : Nat) (e1 : ∀ δ, srcM δ s1 = cM δ) (e2 : srcS s1 = s') (eq : qOf s1 = fullShare.right)
    (ev : ∀ a, sentV X W a s1.val c = landV X W a s'.val c) (eo : ∀ a, outV X W a t.val c = k0_pay69 (landV X W a s'.val c))
    (h : s' < s1) (hr : ∀ p ∈ rest k, s' < p.1) (p : Pr F) (Q : PUnit → sProp 𝕄) :
    iprop(recs X W K ∗ (bigSep Finset.univ fun a : Lane => iprop(awaits c (s', a) ∗ (∃ V, blk c (chunkAt c a.2 t.val) a V) ∗ forwards c (s1, a))) ∗ left c s1 k lanes)
      ⊢ iprop((((bigSep Finset.univ fun a : Lane => iprop(landed X W c (s', a) fullShare.left ∗ blk c (chunkAt c a.2 t.val) a (outV X W a t.val c) ∗ flying c (s1, a))) ∗ oweS c (rest k)) -∗ WP c p Q)
          -∗ WP c (passG c t s' s1 p) Q) :=
  wp_lanes X W K c _ _ _ (left c s1 k) (fun a l p Q => lane_gather X W K c a t s' s1 (e1 a.2) e2 eq (ev a) (eo a) _ (above s' s1 k h hr a l) p Q) p Q

theorem passL_spec (c : Dev nD) (p : Pr F) (Q : PUnit → sProp 𝕄) :
    iprop(recs X W K ∗ (bigSep Finset.univ fun a : Lane => iprop(awaits c (5, a) ∗ (∃ V, blk c (chunkAt c a.2 2) a V))) ∗ oweS c [])
      ⊢ iprop((((bigSep Finset.univ fun a : Lane => iprop(landed X W c (5, a) fullShare ∗ blk c (chunkAt c a.2 2) a (outV X W a 2 c))) ∗ oweS c []) -∗ WP c p Q)
          -∗ WP c (passL c p) Q) :=
  wp_lanes X W K c _ _ _ (fun _ => oweS c []) (fun a l p Q => lane_last X W K c a [] (fun p hp => absurd hp List.not_mem_nil) p Q) p Q

/-- A departed slot: its turn is over and what was sent is back. -/
def gone (c : Dev nD) (h : Hop) : sProp 𝕄 := iprop(atPos ER (sndC c h) 1 ∅ 0 ∗ sndPay X W c h)

theorem passW_spec (c : Dev nD) (p : Pr F) (Q : PUnit → sProp 𝕄) :
    iprop(recs X W K ∗ (bigSep Finset.univ fun s : Fin 6 => bigSep Finset.univ fun a : Lane => flying c (s, a)) ∗ oweS c [])
      ⊢ iprop((((bigSep Finset.univ fun s : Fin 6 => bigSep Finset.univ fun a : Lane => gone X W c (s, a)) ∗ oweS c []) -∗ WP c p Q)
          -∗ WP c (passW p) Q) := by
  rw [sep_slots, sep_slots]
  refine wp_seqL X W K c _ _ _ (fun _ => oweS c []) (fun s l p Q => ?_) p Q slots
  refine wp_lanes X W K c _ _ _ (fun _ => oweS c []) (fun a l p Q => ?_) p Q
  obtain ⟨b, δ⟩ := a
  iintro H Hk
  iapply (wp_sent X W K c s b δ (srcM δ s) (srcM_whole δ s) (srcS s) p Q) $$ [H]; · iexact H
  iintro ⟨Ha, Hp, Ho⟩
  iapply Hk
  unfold gone
  isplitr [Ho]
  · isplitl [Ha]; · iexact Ha
    iexact Hp
  iexact Ho

end Cert.Ring

end
-- ==== Proof.Buffers.lean ====
/-
The landing and staging buffers cut into their windows and put together again.
-/
module

public import proofs.«01_k».proof.Proof.Passes

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Contents from parts -/

/-- Contents given on each of a disjoint family of rectangles are the parts of some contents. -/
theorem glue {s : Shape} {Val : Type} [Nonempty Val] {T : Type} (r : T → Rect s) (hd : ∀ t t', t ≠ t' → Disjoint (r t).set (r t').set)
    (V : ∀ t, (r t).shape.Idx → Val) : ∃ Z : s.Idx → Val, ∀ t i, Z ((r t).emb i) = V t i := by
  classical
  refine ⟨fun y => if h : ∃ p : (Σ t, (r t).shape.Idx), (r p.1).emb p.2 = y then V h.choose.1 h.choose.2 else Classical.arbitrary _, fun t i => ?_⟩
  have h : ∃ p : (Σ t, (r t).shape.Idx), (r p.1).emb p.2 = (r t).emb i := ⟨⟨t, i⟩, rfl⟩
  show (if h : ∃ p : (Σ t, (r t).shape.Idx), (r p.1).emb p.2 = (r t).emb i then V h.choose.1 h.choose.2 else Classical.arbitrary _) = _
  rw [dif_pos h]
  have hc := h.choose_spec
  generalize h.choose = p at hc
  obtain ⟨t', i'⟩ := p
  have ht : t' = t := by
    by_contra hn
    have m1 : (r t).emb i ∈ (r t').set := by rw [← hc, ← Rect.map_emb_univ]; exact Finset.mem_map_of_mem _ (Finset.mem_univ _)
    have m2 : (r t).emb i ∈ (r t).set := by rw [← Rect.map_emb_univ]; exact Finset.mem_map_of_mem _ (Finset.mem_univ _)
    exact Finset.disjoint_left.mp (hd t' t hn) m1 m2
  subst ht
  rw [(r t').emb.injective hc]

theorem sep_each {I : Type} [Fintype I] {Φ Ψ : I → sProp 𝕄} (h : ∀ i, Φ i ⊢ Ψ i) : bigSep Finset.univ Φ ⊢ bigSep Finset.univ Ψ :=
  bigSep_mono fun i _ => h i

/-! ## The windows of a buffer -/

abbrev rV (t : Fin 6 × Fin 4) : Rect S6x256x512 := winR t.1 t.2

theorem rV_disj (t t' : Fin 6 × Fin 4) (h : t ≠ t') : Disjoint (rV t).set (rV t').set := by
  rw [Finset.disjoint_left]
  intro y hy hy'
  have a0 := (Rect.mem_set_unit.mp hy) 0
  have a1 := (Rect.mem_set_unit.mp hy) 1
  have b0 := (Rect.mem_set_unit.mp hy') 0
  have b1 := (Rect.mem_set_unit.mp hy') 1
  obtain ⟨s, b⟩ := t
  obtain ⟨s', b'⟩ := t'
  change s.val ≤ (y 0).val ∧ (y 0).val < s.val + 1 at a0
  change s'.val ≤ (y 0).val ∧ (y 0).val < s'.val + 1 at b0
  change 64 * b.val ≤ (y 1).val ∧ (y 1).val < 64 * b.val + 64 at a1
  change 64 * b'.val ≤ (y 1).val ∧ (y 1).val < 64 * b'.val + 64 at b1
  have e1 : s = s' := Fin.ext (by omega)
  have e2 : b = b' := Fin.ext (by omega)
  exact h (by rw [e1, e2])

theorem rV_cover : (Finset.univ.biUnion fun t => (rV t).set) = (Finset.univ : Finset S6x256x512.Idx) := by
  rw [Finset.eq_univ_iff_forall]
  intro y
  have h0 : (y 0).val < 6 := (y 0).isLt
  have h1 : (y 1).val < 256 := (y 1).isLt
  have h2 : (y 2).val < 512 := (y 2).isLt
  rw [Finset.mem_biUnion]
  refine ⟨(⟨(y 0).val, by omega⟩, ⟨(y 1).val / 64, by omega⟩), Finset.mem_univ _, Rect.mem_set_unit.mpr fun k => ?_⟩
  match k with
  | ⟨0, _⟩ => show (y 0).val ≤ (y 0).val ∧ (y 0).val < (y 0).val + 1; omega
  | ⟨1, _⟩ => show 64 * ((y 1).val / 64) ≤ (y 1).val ∧ (y 1).val < 64 * ((y 1).val / 64) + 64; omega
  | ⟨2, _⟩ => show 0 ≤ (y 2).val ∧ (y 2).val < 0 + 512; omega

/-- All windows of a buffer, with whatever they hold. -/
def allW (c : Dev nD) (m : Memref sig .tc .vmem S6x256x512 .bf16) : sProp 𝕄 :=
  bigSep Finset.univ fun t : Fin 6 × Fin 4 => iprop(∃ Y, has c (winM m t.1 t.2) fullShare Y)

theorem win_split (c : Dev nD) (m : Memref sig .tc .vmem S6x256x512 .bf16) : iprop(∃ Y, has c m fullShare Y) ⊢ (allW c m : sProp 𝕄) := by
  iintro ⟨%Y, H⟩
  ihave H := (owns_rects (c : Thread nD τ) m fullShare rV (fun _ _ => rfl) rV_disj rV_cover Y) $$ H
  unfold allW
  iapply (sep_each (Φ := fun t : Fin 6 × Fin 4 => has c (winM m t.1 t.2) fullShare fun j => Y ((rV t).emb j)) fun t =>
    (show has c (winM m t.1 t.2) fullShare (fun j => Y ((rV t).emb j)) ⊢ (iprop(∃ Y, has c (winM m t.1 t.2) fullShare Y) : sProp 𝕄) from by
      iintro H; iexists _; iexact H))
  iexact H

theorem win_join (c : Dev nD) (m : Memref sig .tc .vmem S6x256x512 .bf16) : (allW c m : sProp 𝕄) ⊢ iprop(∃ Y, has c m fullShare Y) := by
  unfold allW
  haveI : Nonempty (Elt F .bf16) := (inferInstance : ∀ e, Nonempty (Elt F e)) .bf16
  iintro H
  ihave H := (bigSep_exists_pi Finset.univ (fun (t : Fin 6 × Fin 4) (Y : S1x64x512.Idx → Elt F .bf16) => has c (winM m t.1 t.2) fullShare Y)) $$ H
  icases H with ⟨%V, H⟩
  obtain ⟨Z, hZ⟩ := glue rV rV_disj V
  iexists Z
  iapply (owns_of_rects (c : Thread nD τ) m fullShare rV (fun _ _ => rfl) rV_disj rV_cover Z)
  rw [show (fun t => owns (c : Thread nD τ) (m.slice (rV t) fun _ => rfl) fullShare fun j => Z ((rV t).emb j))
    = fun t : Fin 6 × Fin 4 => (has c (winM m t.1 t.2) fullShare (V t) : sProp 𝕄) from funext fun t => by
      rw [show (fun j => Z ((rV t).emb j)) = V t from funext (hZ t)]]
  iexact H

/-! ## Both directions at once -/

theorem sep_bool (P : Bool → sProp 𝕄) : bigSep Finset.univ P = iprop(P false ∗ P true) := by
  rw [show (Finset.univ : Finset Bool) = insert false {true} from by decide, bigSep_insert (by decide), bigSep_singleton]; rfl

/-- A hop is a direction and a window. -/
def hopE : Hop ≃ Bool × (Fin 6 × Fin 4) where
  toFun h := (h.2.2, (h.1, h.2.1))
  invFun p := (p.2.1, (p.2.2, p.1))
  left_inv _ := rfl
  right_inv _ := rfl

theorem sep_hops (P : Bool → Fin 6 × Fin 4 → sProp 𝕄) :
    iprop((bigSep Finset.univ fun t => P false t) ∗ bigSep Finset.univ fun t => P true t) = bigSep Finset.univ fun h : Hop => P h.2.2 (h.1, h.2.1) := by
  rw [← sep_bool (fun δ => bigSep Finset.univ fun t => P δ t), ← bigSep_univ_prod (fun p : Bool × (Fin 6 × Fin 4) => P p.1 p.2),
    bigSep_univ_equiv hopE]
  rfl

/-- What is known per hop is known per slot and lane. -/
theorem sep_slot (P : Hop → sProp 𝕄) : bigSep Finset.univ P = bigSep Finset.univ fun s : Fin 6 => bigSep Finset.univ fun a : Lane => P (s, a) :=
  bigSep_univ_prod P

end Cert.Ring

end
-- ==== Proof.Ends.lean ====
/-
A device's whole run after the barrier: the products and all passes.
-/
module

public import proofs.«01_k».proof.Proof.Buffers

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Chunks by steps -/

/-- How many steps against a direction chunk `j` lies from device `c`'s. -/
def stepAt (c : Dev nD) (δ : Bool) (j : Fin 4) : Fin 4 := match δ with
  | false => ⟨(c.val + 4 - j.val) % 4, Nat.mod_lt _ (by decide)⟩
  | true => ⟨(j.val + 4 - c.val) % 4, Nat.mod_lt _ (by decide)⟩
theorem step_chunk (c : Dev nD) (δ : Bool) (s : Fin 4) : stepAt c δ (chunkAt c δ s.val) = s := by revert c δ s; decide
theorem chunk_step (c : Dev nD) (δ : Bool) (j : Fin 4) : chunkAt c δ (stepAt c δ j).val = j := by revert c δ j; decide

def stepE (c : Dev nD) : Fin 4 × Lane ≃ Fin 4 × Lane where
  toFun p := (chunkAt c p.2.2 p.1.val, p.2)
  invFun p := (stepAt c p.2.2 p.1, p.2)
  left_inv p := by show (stepAt c p.2.2 (chunkAt c p.2.2 p.1.val), p.2) = p; rw [step_chunk]
  right_inv p := by show (chunkAt c p.2.2 (stepAt c p.2.2 p.1).val, p.2) = p; rw [chunk_step]

/-- The blocks of the result, by step. -/
theorem sep_steps (c : Dev nD) (P : Fin 4 → Lane → sProp 𝕄) :
    (bigSep Finset.univ fun t : Fin 4 × Lane => P t.1 t.2) = bigSep Finset.univ fun s : Fin 4 => bigSep Finset.univ fun a : Lane => P (chunkAt c a.2 s.val) a := by
  rw [bigSep_univ_equiv (stepE c), bigSep_univ_prod]; rfl

theorem sep_four (P : Fin 4 → sProp 𝕄) : bigSep Finset.univ P = sepL P [0, 1, 2, 3] := by
  rw [← sepL_eq P [0, 1, 2, 3] (by decide)]; exact congrArg (fun t => bigSep t P) (by decide)

variable (X : Dev nD → VX F) (W : Dev nD → VW F) (K : Dev nD × CK → ℕ)

/-- Block `a` of chunk `j` of the result on device `c`. -/
def outJ (c : Dev nD) (j : Fin 4) (a : Lane) : Vec F S64x512 .f32 := outV X W a (stepAt c a.2 j).val c

theorem finalV_ex (c : Dev nD) : ∃ Z : S1024x1024.Idx → Elt F .f32, ∀ t i, Z ((rT t).emb i) = outJ X W c t.1 t.2 i :=
  haveI : Nonempty (Elt F .f32) := (inferInstance : ∀ e, Nonempty (Elt F e)) .f32
  glue rT rT_disj (fun t => outJ X W c t.1 t.2)
/-- The result on device `c`. -/
def finalV (c : Dev nD) : S1024x1024.Idx → Elt F .f32 := (finalV_ex X W c).choose
theorem finalV_spec (c : Dev nD) (j : Fin 4) (a : Lane) (i : S64x512.Idx) : finalV X W c ((rB j a).emb i) = outJ X W c j a i :=
  (finalV_ex X W c).choose_spec (j, a) i

theorem out_done (c : Dev nD) :
    (bigSep Finset.univ fun s : Fin 4 => bigSep Finset.univ fun a : Lane => blk c (chunkAt c a.2 s.val) a (outV X W a s.val c)) ⊢ has c oM fullShare (finalV X W c) := by
  refine (Entails.of_eq ?_).trans (out_join c (finalV X W c) (outJ X W c) (finalV_spec X W c))
  rw [sep_steps c (fun j a => blk c j a (outJ X W c j a))]
  refine congrArg _ (funext fun s => congrArg _ (funext fun a => ?_))
  show _ = blk c (chunkAt c a.2 s.val) a (outV X W a (stepAt c a.2 (chunkAt c a.2 s.val)).val c)
  rw [step_chunk]

/-! ## What one lane has at the end -/

/-- Everything of a lane at the end of the run. -/
def laneEnd (c : Dev nD) (a : Lane) : sProp 𝕄 :=
  iprop(sepL (fun s : Fin 6 => gone X W c (s, a)) slots
    ∗ landed X W c (0, a) fullShare ∗ landed X W c (1, a) fullShare ∗ landed X W c (2, a) fullShare
    ∗ landed X W c (3, a) fullShare.left ∗ landed X W c (4, a) fullShare.left ∗ landed X W c (5, a) fullShare
    ∗ free c 4 a ∗ free c 5 a)

/-- A lane of a landing buffer, whatever it holds. -/
def flown (c : Dev nD) (s : Fin 6) (a : Lane) : sProp 𝕄 := iprop(∃ Y, has c (winM (cM a.2) s a.1) fullShare Y)

theorem gone_stage (c : Dev nD) (s : Fin 6) (a : Lane) (e1 : srcM a.2 s = gM a.2) (e2 : srcS s = s) (eq : qOf s = fullShare) :
    gone X W c (s, a) ⊢ iprop(atPos ER (sndC c (s, a)) 1 ∅ 0 ∗ free c s a) := by
  unfold gone free sndPay
  rw [show has c (winM (srcM (s, a).2.2 (s, a).1) (srcS (s, a).1) (s, a).2.1) (qOf (s, a).1) (sentV X W (s, a).2 (s, a).1.val c)
    = has c (winM (gM a.2) s a.1) fullShare (sentV X W a s.val c) from by
      show has c (winM (srcM a.2 s) (srcS s) a.1) (qOf s) (sentV X W a s.val c) = _
      rw [e1, e2, eq]]
  iintro ⟨Ha, Hp⟩
  isplitl [Ha]; · iexact Ha
  iexists (sentV X W a s.val c)
  iexact Hp

theorem gone_land (c : Dev nD) (s s1 : Fin 6) (a : Lane) (e1 : srcM a.2 s1 = cM a.2) (e2 : srcS s1 = s) (eq : qOf s1 = fullShare.right)
    (ev : sentV X W a s1.val c = landV X W a s.val c) :
    iprop(gone X W c (s1, a) ∗ landed X W c (s, a) fullShare.left)
      ⊢ iprop(atPos ER (sndC c (s1, a)) 1 ∅ 0 ∗ atPos ER (rcvC c (s, a)) 1 ∅ 0 ∗ flown c s a) := by
  unfold gone flown landed sndPay
  rw [show has c (winM (srcM (s1, a).2.2 (s1, a).1) (srcS (s1, a).1) (s1, a).2.1) (qOf (s1, a).1) (sentV X W (s1, a).2 (s1, a).1.val c)
    = has c (winM (cM a.2) s a.1) fullShare.right (landV X W a s.val c) from by
      show has c (winM (srcM a.2 s1) (srcS s1) a.1) (qOf s1) (sentV X W a s1.val c) = _
      rw [e1, e2, eq, ev]]
  iintro ⟨⟨Ha, Hr⟩, ⟨Hb, Hl⟩⟩
  isplitl [Ha]; · iexact Ha
  isplitl [Hb]; · iexact Hb
  iexists (landV X W a s.val c)
  iapply (owns_halves (c : Thread nD τ) (winM (cM a.2) s a.1) fullShare (landV X W a s.val c)).2
  isplitl [Hl]; · iexact Hl
  iexact Hr

theorem landed_flown (c : Dev nD) (s : Fin 6) (a : Lane) :
    landed X W c (s, a) fullShare ⊢ iprop(atPos ER (rcvC c (s, a)) 1 ∅ 0 ∗ flown c s a) := by
  unfold landed flown
  iintro ⟨Ha, H⟩
  isplitl [Ha]; · iexact Ha
  iexists _; iexact H

/-- What a lane's end is. -/
def laneBack (c : Dev nD) (a : Lane) (s : Fin 6) : sProp 𝕄 :=
  iprop((free c s a ∗ flown c s a) ∗ atPos ER (sndC c (s, a)) 1 ∅ 0 ∗ atPos ER (rcvC c (s, a)) 1 ∅ 0)

theorem lane_end (c : Dev nD) (a : Lane) : laneEnd X W c a ⊢ bigSep Finset.univ fun s : Fin 6 => laneBack c a s := by
  rw [sep_slots]
  unfold laneEnd laneBack
  simp only [slots, sepL]
  iintro ⟨⟨H0, H1, H2, H3, H4, H5, -⟩, L0, L1, L2, L3, L4, L5, F4, F5⟩
  ihave H0 := (gone_stage X W c 0 a rfl rfl rfl) $$ H0
  ihave H1 := (gone_stage X W c 1 a rfl rfl rfl) $$ H1
  ihave H2 := (gone_stage X W c 2 a rfl rfl rfl) $$ H2
  ihave H3 := (gone_stage X W c 3 a rfl rfl rfl) $$ H3
  ihave L0 := (landed_flown X W c 0 a) $$ L0
  ihave L1 := (landed_flown X W c 1 a) $$ L1
  ihave L2 := (landed_flown X W c 2 a) $$ L2
  ihave L5 := (landed_flown X W c 5 a) $$ L5
  ihave HA := (gone_land X W c 3 4 a rfl rfl rfl rfl) $$ [H4 L3]
  · isplitl [H4]; · iexact H4
    iexact L3
  ihave HB := (gone_land X W c 4 5 a rfl rfl rfl rfl) $$ [H5 L4]
  · isplitl [H5]; · iexact H5
    iexact L4
  icases H0 with ⟨P0, G0⟩
  icases H1 with ⟨P1, G1⟩
  icases H2 with ⟨P2, G2⟩
  icases H3 with ⟨P3, G3⟩
  icases L0 with ⟨Q0, C0⟩
  icases L1 with ⟨Q1, C1⟩
  icases L2 with ⟨Q2, C2⟩
  icases L5 with ⟨Q5, C5⟩
  icases HA with ⟨P4, Q3, C3⟩
  icases HB with ⟨P5, Q4, C4⟩
  isplitl [P0 G0 Q0 C0]
  · isplitl [G0 C0]
    · isplitl [G0]; · iexact G0
      iexact C0
    isplitl [P0]; · iexact P0
    iexact Q0
  isplitl [P1 G1 Q1 C1]
  · isplitl [G1 C1]
    · isplitl [G1]; · iexact G1
      iexact C1
    isplitl [P1]; · iexact P1
    iexact Q1
  isplitl [P2 G2 Q2 C2]
  · isplitl [G2 C2]
    · isplitl [G2]; · iexact G2
      iexact C2
    isplitl [P2]; · iexact P2
    iexact Q2
  isplitl [P3 G3 Q3 C3]
  · isplitl [G3 C3]
    · isplitl [G3]; · iexact G3
      iexact C3
    isplitl [P3]; · iexact P3
    iexact Q3
  isplitl [P4 F4 Q4 C4]
  · isplitl [F4 C4]
    · isplitl [F4]; · iexact F4
      iexact C4
    isplitl [P4]; · iexact P4
    iexact Q4
  isplitl [P5 F5 Q5 C5]
  · isplitl [F5 C5]
    · isplitl [F5]; · iexact F5
      iexact C5
    isplitl [P5]; · iexact P5
    iexact Q5
  iempintro

/-- All lanes' ends: the buffers whole, and all turns over. -/
theorem ends (c : Dev nD) :
    (bigSep Finset.univ fun a : Lane => laneEnd X W c a)
      ⊢ iprop(((allW c (gM false) ∗ allW c (gM true)) ∗ (allW c (cM false) ∗ allW c (cM true)))
        ∗ (bigSep Finset.univ fun h : Hop => atPos ER (sndC c h) 1 ∅ 0) ∗ (bigSep Finset.univ fun h : Hop => atPos ER (rcvC c h) 1 ∅ 0)) := by
  refine (sep_each (lane_end X W c)).trans (Entails.of_eq ?_)
  unfold allW
  rw [sep_hops (fun δ t => iprop(∃ Y, has c (winM (gM δ) t.1 t.2) fullShare Y)), sep_hops (fun δ t => iprop(∃ Y, has c (winM (cM δ) t.1 t.2) fullShare Y)),
    ← bigSep_sep', ← bigSep_sep', ← bigSep_sep']
  refine Eq.trans ?_ (sep_slot (fun h : Hop => laneBack c h.2 h.1)).symm
  rw [← bigSep_univ_prod (fun p : Lane × Fin 6 => laneBack c p.1 p.2), bigSep_univ_equiv (Equiv.prodComm (Fin 6) Lane), bigSep_univ_prod]
  rfl

end Cert.Ring

end
-- ==== Proof.Run.lean ====
/-
A device's whole run after the barrier.
-/
module

public import proofs.«01_k».proof.Proof.Ends

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → VX F) (W : Dev nD → VW F) (K : Dev nD × CK → ℕ)

/-- The body after the barrier. -/
def ringP (d : Dev nD) (K : Pr F) : Pr F :=
  gemmP (k0_off1 d) (k0_off2 d) (k0_off1_inb d) (k0_off2_inb d) <|
  pass0 d <|
  gemmP (k0_off5 d 1#32) (k0_off6 d 1#32) (k0_off5_inb d 0) (k0_off6_inb d 0) <|
  gemmP (k0_off5 d 2#32) (k0_off6 d 2#32) (k0_off5_inb d 1) (k0_off6_inb d 1) <|
  gemmP (k0_off5 d 3#32) (k0_off6 d 3#32) (k0_off5_inb d 2) (k0_off6_inb d 2) <|
  passR d 1 0 1 <| passR d 2 1 2 <| passF d <| passG d 0 3 4 <| passG d 1 4 5 <| passL d <| passW K

theorem chunks_all (c : Dev nD) (j : Fin 4) : j ∈ [chunkAt c true 3, chunkAt c true 2, chunkAt c true 1, chunkAt c true 0] := by revert c j; decide
theorem chunks_new1 (c : Dev nD) : chunkAt c true 1 ∉ [chunkAt c true 0] := by revert c; decide
theorem chunks_new2 (c : Dev nD) : chunkAt c true 2 ∉ [chunkAt c true 1, chunkAt c true 0] := by revert c; decide
theorem chunks_new3 (c : Dev nD) : chunkAt c true 3 ∉ [chunkAt c true 2, chunkAt c true 1, chunkAt c true 0] := by revert c; decide

/-- All chunks stored, the result is its blocks. -/
theorem work_split (c : Dev nD) :
    work X W c [chunkAt c true 3, chunkAt c true 2, chunkAt c true 1, chunkAt c true 0]
      ⊢ iprop(has c xM fullShare (X c) ∗ has c wM fullShare (W c)
        ∗ sepL (fun s : Fin 4 => bigSep Finset.univ fun a : Lane => blk c (chunkAt c a.2 s.val) a (partV (X c) (W c) (chunkAt c a.2 s.val) a)) [0, 1, 2, 3]) := by
  rw [← sep_four, ← sep_steps c (fun j a => blk c j a (partV (X c) (W c) j a))]
  unfold work
  iintro ⟨Hx, Hw, ⟨%Z, %hZ, Ho⟩⟩
  isplitl [Hx]; · iexact Hx
  isplitl [Hw]; · iexact Hw
  iapply (out_split X W c Z fun j => hZ j (chunks_all c j))
  iexact Ho

/-- Blocks are blocks whatever they hold. -/
theorem some_blk (c : Dev nD) (s : Nat) (V : Lane → Vec F S64x512 .f32) :
    (bigSep Finset.univ fun a : Lane => blk c (chunkAt c a.2 s) a (V a)) ⊢ bigSep Finset.univ fun a : Lane => (iprop(∃ V, blk c (chunkAt c a.2 s) a V) : sProp 𝕄) :=
  sep_each fun a => by iintro H; iexists (V a); iexact H

theorem wp_ring (c : Dev nD) (p : Pr F) (Q : PUnit → sProp 𝕄) :
    iprop(recs X W K ∗ work X W c [] ∗ (bigSep Finset.univ fun h : Hop => sends c h) ∗ (bigSep Finset.univ fun h : Hop => awaits c h) ∗ oweS c hops)
      ⊢ iprop(((has c xM fullShare (X c) ∗ has c wM fullShare (W c) ∗ has c oM fullShare (finalV X W c)
            ∗ ((allW c (gM false) ∗ allW c (gM true)) ∗ (allW c (cM false) ∗ allW c (cM true)))
            ∗ ((bigSep Finset.univ fun h : Hop => atPos ER (sndC c h) 1 ∅ 0) ∗ (bigSep Finset.univ fun h : Hop => atPos ER (rcvC c h) 1 ∅ 0))
            ∗ oweS c []) -∗ WP c p Q)
          -∗ WP c (ringP c p) Q) := by
  have h0 := fun p Q => pass0_spec X W K c p Q
  have h1 := fun p Q => passR_spec X W K c 1 0 1 2 (fun _ => rfl) rfl rfl (fun _ => rfl) (by decide) (by decide) p Q
  have h2 := fun p Q => passR_spec X W K c 2 1 2 3 (fun _ => rfl) rfl rfl (fun _ => rfl) (by decide) (by decide) p Q
  have h3 := fun p Q => passF_spec X W K c p Q
  have h4 := fun p Q => passG_spec X W K c 0 3 4 5 (fun _ => rfl) rfl rfl (fun _ => rfl) (fun _ => rfl) (by decide) (by decide) p Q
  have h5 := fun p Q => passG_spec X W K c 1 4 5 6 (fun _ => rfl) rfl rfl (fun _ => rfl) (fun _ => rfl) (by decide) (by decide) p Q
  have h6 := fun p Q => passL_spec X W K c p Q
  have h7 := fun p Q => passW_spec X W K c p Q
  have hs4 : (bigSep Finset.univ fun a : Lane => sends c (4, a)) ⊢ iprop((bigSep Finset.univ fun a : Lane => free c 4 a) ∗ bigSep Finset.univ fun a : Lane => (forwards c (4, a) : sProp 𝕄)) :=
    Entails.of_eq (bigSep_sep' _ _ _)
  have hs5 : (bigSep Finset.univ fun a : Lane => sends c (5, a)) ⊢ iprop((bigSep Finset.univ fun a : Lane => free c 5 a) ∗ bigSep Finset.univ fun a : Lane => (forwards c (5, a) : sProp 𝕄)) :=
    Entails.of_eq (bigSep_sep' _ _ _)
  have he := ends X W c
  unfold laneEnd at he
  simp only [bigSep_sep', sepL, slots] at h0 h1 h2 h3 h4 h5 h6 he
  have hw := work_split X W c
  simp only [sepL] at hw
  have hd := out_done X W c
  rw [sep_four] at hd
  rw [sep_slot (fun h : Hop => sends c h), sep_slot (fun h : Hop => awaits c h), sep_slots, sep_slots]
  simp only [sep_slots, slots, sepL] at h7 ⊢
  simp only [sepL] at hd
  unfold ringP
  iintro ⟨#HR, Hw, ⟨S0, S1, S2, S3, S4, S5, -⟩, ⟨A0, A1, A2, A3, A4, A5, -⟩, Ho⟩ Hk
  iapply (wp_gemm X W c (chunkAt c true 0) [] List.not_mem_nil _ _ (k0_off1_inb c) (k0_off2_inb c) (off1_eq c) (off2_eq c)) $$ [Hw]; · iexact Hw
  iintro Hw
  iapply (h0 _ Q) $$ [S0 Hw Ho]
  · isplitr; · iexact HR
    isplitl [S0]; · iexact S0
    isplitl [Hw]; · iexact Hw
    rw [rest_zero]; unfold left; iexact Ho
  iintro ⟨T0, Hw, Ho⟩
  iapply (wp_gemm X W c (chunkAt c true 1) _ (chunks_new1 c) _ _ (k0_off5_inb c 0) (k0_off6_inb c 0) (off5_eq c 0) (off6_eq c 0)) $$ [Hw]; · iexact Hw
  iintro Hw
  iapply (wp_gemm X W c (chunkAt c true 2) _ (chunks_new2 c) _ _ (k0_off5_inb c 1) (k0_off6_inb c 1) (off5_eq c 1) (off6_eq c 1)) $$ [Hw]; · iexact Hw
  iintro Hw
  iapply (wp_gemm X W c (chunkAt c true 3) _ (chunks_new3 c) _ _ (k0_off5_inb c 2) (k0_off6_inb c 2) (off5_eq c 2) (off6_eq c 2)) $$ [Hw]; · iexact Hw
  iintro Hw
  ihave Hw := hw $$ Hw
  icases Hw with ⟨Hx, Hw, B0, B1, B2, B3, -⟩
  iapply (h1 _ Q) $$ [A0 B1 S1 Ho]
  · isplitr; · iexact HR
    isplitl [A0 B1 S1]
    · isplitl [A0]; · iexact A0
      isplitl [B1]; · iexact B1
      iexact S1
    rw [rest_one]; unfold left; iexact Ho
  iintro ⟨⟨D0, B1, T1⟩, Ho⟩
  iapply (h2 _ Q) $$ [A1 B2 S2 Ho]
  · isplitr; · iexact HR
    isplitl [A1 B2 S2]
    · isplitl [A1]; · iexact A1
      isplitl [B2]; · iexact B2
      iexact S2
    rw [rest_two]; unfold left; iexact Ho
  iintro ⟨⟨D1, B2, T2⟩, Ho⟩
  iapply (h3 _ Q) $$ [A2 B3 S3 Ho]
  · isplitr; · iexact HR
    isplitl [A2 B3 S3]
    · isplitl [A2]; · iexact A2
      isplitl [B3]; · iexact B3
      iexact S3
    rw [rest_three]; unfold left; iexact Ho
  iintro ⟨⟨D2, B3, T3⟩, Ho⟩
  ihave B0 := (some_blk c (0 : Fin 4).val (fun a => partV (X c) (W c) (chunkAt c a.2 (0 : Fin 4).val) a)) $$ B0
  ihave S4 := hs4 $$ S4
  ihave S5 := hs5 $$ S5
  icases S4 with ⟨F4, S4⟩
  icases S5 with ⟨F5, S5⟩
  iapply (h4 _ Q) $$ [A3 B0 S4 Ho]
  · isplitr; · iexact HR
    isplitl [A3 B0 S4]
    · isplitl [A3]; · iexact A3
      isplitl [B0]; · iexact B0
      iexact S4
    rw [rest_four]; unfold left; iexact Ho
  iintro ⟨⟨D3, B0, T4⟩, Ho⟩
  iapply (h5 _ Q) $$ [A4 B1 S5 Ho]
  · isplitr; · iexact HR
    isplitl [A4 B1 S5]
    · isplitl [A4]; · iexact A4
      isplitl [B1]; · iexact B1
      iexact S5
    rw [rest_five]; unfold left; iexact Ho
  iintro ⟨⟨D4, B1, T5⟩, Ho⟩
  rw [rest_six]
  iapply (h6 _ Q) $$ [A5 B2 Ho]
  · isplitr; · iexact HR
    isplitl [A5 B2]
    · isplitl [A5]; · iexact A5
      iexact B2
    iexact Ho
  iintro ⟨⟨D5, B2⟩, Ho⟩
  iapply (h7 _ Q) $$ [T0 T1 T2 T3 T4 T5 Ho]
  · isplitr; · iexact HR
    isplitr [Ho]
    · isplitl [T0]; · iexact T0
      isplitl [T1]; · iexact T1
      isplitl [T2]; · iexact T2
      isplitl [T3]; · iexact T3
      isplitl [T4]; · iexact T4
      isplitl [T5]; · iexact T5
      iempintro
    iexact Ho
  iintro ⟨⟨G0, G1, G2, G3, G4, G5, -⟩, Ho⟩
  ihave Hout := hd $$ [B0 B1 B2 B3]
  · isplitl [B0]; · iexact B0
    isplitl [B1]; · iexact B1
    isplitl [B2]; · iexact B2
    isplitl [B3]; · iexact B3
    iempintro
  ihave Hend := he $$ [G0 G1 G2 G3 G4 G5 D0 D1 D2 D3 D4 D5 F4 F5]
  · isplitl [G0 G1 G2 G3 G4 G5]
    · isplitl [G0]; · iexact G0
      isplitl [G1]; · iexact G1
      isplitl [G2]; · iexact G2
      isplitl [G3]; · iexact G3
      isplitl [G4]; · iexact G4
      isplitl [G5]; · iexact G5
      rw [sep_lanes]; simp only [lanes, sepL]
      repeat (isplitr; · iempintro)
      iempintro
    isplitl [D0]; · iexact D0
    isplitl [D1]; · iexact D1
    isplitl [D2]; · iexact D2
    isplitl [D3]; · iexact D3
    isplitl [D4]; · iexact D4
    isplitl [D5]; · iexact D5
    isplitl [F4]; · iexact F4
    iexact F5
  icases Hend with ⟨Hb, Ha⟩
  iapply Hk
  isplitl [Hx]; · iexact Hx
  isplitl [Hw]; · iexact Hw
  isplitl [Hout]; · iexact Hout
  isplitl [Hb]; · iexact Hb
  isplitl [Ha]; · iexact Ha
  iexact Ho

end Cert.Ring

end
-- ==== Proof.Body.lean ====
/-
A device's whole body: the barrier handshake, the run after it, and the closing of its semaphores.
-/
module

public import proofs.«01_k».proof.Proof.Run

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → VX F) (W : Dev nD → VW F) (K : Dev nD × CK → ℕ)

/-! ## Closing semaphores -/

/-- Something known once and for all may be used in every part. -/
theorem sep_known {I : Type} [Fintype I] [DecidableEq I] {R : sProp 𝕄} [BI.Persistent R] {Φ Ψ : I → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

/-- A cell past its round holds no units any more. -/
theorem close_one (c : Dev nD) (k : CK) :
    iprop(recs X W K ∗ atPos ER (cell c k) 1 ∅ 0) ⊢ (|={Set.univ}=> semVal (cell c k) 0 : sProp 𝕄) := by
  iintro ⟨#HR, Ha⟩
  iapply (Rounds.cell_close ER (Rd X W) (Set.mem_univ (K (c, k))) (fun h => h) (R := 0 + 1) (duties_later X W (cell c k)))
  isplitr; · iapply (recs_inv X W K c k); iexact HR
  iexact Ha

theorem close_all (c : Dev nD) (o : Bool) :
    iprop(recs X W K ∗ bigSep Finset.univ fun h : Hop => atPos ER (cell c (some (o, h))) 1 ∅ 0)
      ⊢ (|={Set.univ}=> bigSep Finset.univ fun h : Hop => semVal (cell c (some (o, h))) 0 : sProp 𝕄) :=
  (sep_known fun h => close_one X W K c (some (o, h))).trans (bigSep_fupd _ _)

/-! ## What a device is dealt -/

/-- Per hop: the two duties that it pays, and its turn on the departure. -/
def dealt (c : Dev nD) (h : Hop) : sProp 𝕄 :=
  iprop(dutyTok ER (sndC c h) 0 false ∗ dutyTok ER (rcvC (dstD h.2.2 c) h) 0 false ∗ atPos ER (sndC c h) 0 ∅ 0)

/-- The staging windows, the landing windows received at the barrier, and what was dealt: all that the sends take. -/
theorem sends_intro (c : Dev nD) :
    iprop((allW c (gM false) ∗ allW c (gM true)) ∗ (barPay c false ∗ barPay c true) ∗ bigSep Finset.univ fun h : Hop => dealt c h)
      ⊢ (bigSep Finset.univ fun h : Hop => sends c h : sProp 𝕄) := by
  unfold allW barPay
  rw [sep_hops (fun δ t => iprop(∃ Y, has c (winM (gM δ) t.1 t.2) fullShare Y)),
    sep_hops (fun δ t => iprop(∃ Y, has (dstD δ c) (winM (cM δ) t.1 t.2) fullShare Y)), ← bigSep_sep', ← bigSep_sep']
  refine sep_each fun h => ?_
  unfold dealt sends free ready
  iintro ⟨Hg, Hc, H1, H2, H3⟩
  isplitl [Hg]; · iexact Hg
  isplitr [H3]
  · isplitl [Hc]; · iexact Hc
    isplitl [H1]; · iexact H1
    iexact H2
  iexact H3

/-! ## The body -/

/-- What the body starts with. -/
def pre (c : Dev nD) : sProp 𝕄 :=
  iprop((has c xM fullShare (X c) ∗ has c wM fullShare (W c) ∗ ∃ Z, has c oM fullShare Z)
    ∗ (((∃ Y, has c (gM false) fullShare Y) ∗ ∃ Y, has c (gM true) fullShare Y) ∗ (∃ Y, has c (cM false) fullShare Y) ∗ ∃ Y, has c (cM true) fullShare Y)
    ∗ (dutyTok ER (barC (srcD false c)) 0 false ∗ dutyTok ER (barC (srcD true c)) 0 true)
    ∗ (cred (tallyAt (barC c) () 2) ∗ atPos ER (barC c) 0 ∅ 0)
    ∗ (bigSep Finset.univ fun h : Hop => dealt c h) ∗ (bigSep Finset.univ fun h : Hop => awaits c h)
    ∗ ∃ Ws, owes (c : Thread nD τ) (O₀ c) Ws)

/-- What it leaves. -/
def post (c : Dev nD) : sProp 𝕄 :=
  iprop((has c xM fullShare (X c) ∗ has c wM fullShare (W c) ∗ has c oM fullShare (finalV X W c))
    ∗ (((∃ Y, has c (gM false) fullShare Y) ∗ ∃ Y, has c (gM true) fullShare Y) ∗ (∃ Y, has c (cM false) fullShare Y) ∗ ∃ Y, has c (cM true) fullShare Y)
    ∗ (semVal (barC c) 0 ∗ (bigSep Finset.univ fun h : Hop => semVal (sndC c h) 0) ∗ bigSep Finset.univ fun h : Hop => semVal (rcvC c h) 0)
    ∗ ∃ Ws, owes (c : Thread nD τ) 0 Ws)

/-- Signalling a neighbour's barrier cell, with the landing buffer that this neighbour writes into. -/
theorem wp_ready (c n : Dev nD) (δ : Bool) (hn : n = srcD δ c) (O O' : CellTallies nD τ sig Unit) (hO : O = O' + tallyAt (barC (srcD δ c)) () 1)
    (Ws : Waits sig Unit) {k : PUnit → Pr F} {Q : PUnit → sProp 𝕄} :
    iprop(recs X W K ∗ (∃ Y, has c (cM δ) fullShare Y) ∗ dutyTok ER (barC (srcD δ c)) 0 δ ∗ owes (c : Thread nD τ) O Ws)
      ⊢ iprop((owes (c : Thread nD τ) O' Ws -∗ WP c (k ⟨⟩) Q) -∗ WP c (.op (.semSignal (n, .tc) barSem (1#32 : BitVec 32).toInt) k) Q) := by
  subst hn
  iintro ⟨#HR, Hc, Ht, Ho⟩ Hk
  ihave Hc := (win_split c (cM δ)) $$ Hc
  iapply (Rounds.wp_signal 𝒱₀ ER (Rd X W) (c : Thread nD τ) none (dst := (srcD δ c : Thread nD τ)) (κ := K (srcD δ c, none)) (r := 0)
      (d := δ) (by have h := duties_bar X W (srcD δ c); exact h ▸ Finset.mem_univ _) ((amount_bar X W (srcD δ c) δ).trans (by decide)) () O' hO) $$ [Hc Ht Ho]
  · isplitr; · iapply (recs_inv X W K (srcD δ c) none); iexact HR
    isplitl [Ho]; · iexact Ho
    isplitl [Ht]; · iexact Ht
    isplitl [Hc]
    · iapply (show (allW c (cM δ) : sProp 𝕄) ⊢ (Rd X W).payload ((srcD δ c : Thread nD τ), SemLoc.reg barSem) 0 δ from
        Entails.of_eq ((show allW c (cM δ) = barPay (srcD δ c) δ by unfold barPay allW; rw [dst_src]).trans (payload_bar X W (srcD δ c) δ).symm))
      iexact Hc
    iapply (recs_reached X W K (srcD δ c) none); iexact HR
  iintro Ho
  iapply Hk
  iexact Ho

theorem hrest (c : Dev nD) :
    bigSep ((Rd X W).duties ((c : Thread nD τ), SemLoc.reg barSem) 0 \ ∅) (fun d => (Rd X W).payload ((c : Thread nD τ), SemLoc.reg barSem) 0 d)
      ⊢ iprop(barPay c false ∗ barPay (F := F) c true) := Entails.of_eq (rest_bar X W c)

/-- Waiting for both neighbours. -/
theorem wp_both (c : Dev nD) (Ws : Waits sig Unit) {k : PUnit → Pr F} {Q : PUnit → sProp 𝕄} :
    iprop(recs X W K ∗ cred (tallyAt (barC c) () 2) ∗ atPos ER (barC c) 0 ∅ 0 ∗ owes (c : Thread nD τ) (owe c hops) Ws)
      ⊢ iprop(((oweS c hops ∗ atPos ER (barC c) 1 ∅ 0 ∗ barPay c false ∗ barPay c true) -∗ WP c (k ⟨⟩) Q)
          -∗ WP c (.op (.semWait barSem (2#32 : BitVec 32).toInt) k) Q) := by
  iintro ⟨#HR, Hc, Ha, Ho⟩ Hk
  ihave #Hlev := (recs_lev X W K) $$ HR
  iapply (Rounds.wp_wait_rest_token 𝒱₀ ER (Rd X W) (c : Thread nD τ) none (κ := K (c, none)) (wpE_semWait_eq 𝒱₀ (c : Thread nD τ) none Set.univ)
      (Set.mem_univ _) () (O := owe c hops) (W := Ws) (R := 0) (m := 0) (T := ∅)
      (show 0 + (2#32 : BitVec 32).toInt.toNat = (Rd X W).expect (barC c) 0 by rw [expect_bar]; rfl)) $$ [Hc Ha Ho]
  · isplitr; · iapply (recs_inv X W K c none); iexact HR
    isplitl [Hc]; · iexact Hc
    isplitl [Ho]; · iexact Ho
    isplitr; · iapply (mayWait_bar c); iexact Hlev
    iexact Ha
  iintro ⟨Ho, Ha, -, Hp⟩
  ihave Hp := (hrest X W c) $$ Hp
  icases Hp with ⟨H1, H2⟩
  iapply Hk
  isplitl [Ho]; · unfold oweS; iexists _; iexact Ho
  isplitl [Ha]; · iexact Ha
  isplitl [H1]; · iexact H1
  iexact H2

/-- The handshake, and what follows it. -/
def shakeP (d : Dev nD) (p : Pr F) : Pr F :=
  .op (.semSignal ((⟨k0_dev1 d, k0_dev1_lt d⟩ : Dev nD), .tc) barSem (1#32 : BitVec 32).toInt) fun _ =>
  .op (.semSignal ((⟨k0_dev2 d, k0_dev2_lt d⟩ : Dev nD), .tc) barSem (1#32 : BitVec 32).toInt) fun _ =>
  .op (.semWait barSem (2#32 : BitVec 32).toInt) fun _ => p

theorem wp_shake (c : Dev nD) (p : Pr F) (Q : PUnit → sProp 𝕄) :
    iprop(recs X W K ∗ ((∃ Y, has c (cM false) fullShare Y) ∗ ∃ Y, has c (cM true) fullShare Y)
        ∗ (dutyTok ER (barC (srcD false c)) 0 false ∗ dutyTok ER (barC (srcD true c)) 0 true)
        ∗ (cred (tallyAt (barC c) () 2) ∗ atPos ER (barC c) 0 ∅ 0) ∗ ∃ Ws, owes (c : Thread nD τ) (O₀ c) Ws)
      ⊢ iprop(((oweS c hops ∗ atPos ER (barC c) 1 ∅ 0 ∗ barPay c false ∗ barPay c true) -∗ WP c p Q) -∗ WP c (shakeP c p) Q) := by
  unfold shakeP
  iintro ⟨#HR, ⟨Hc1, Hc2⟩, ⟨Ht1, Ht2⟩, ⟨Hcr, Hat⟩, ⟨%Ws, Ho⟩⟩ Hk
  iapply (wp_ready X W K c _ false (dev1_eq c) (O₀ c) (O₁ c) rfl Ws) $$ [Hc1 Ht1 Ho]
  · isplitr; · iexact HR
    isplitl [Hc1]; · iexact Hc1
    isplitl [Ht1]; · iexact Ht1
    iexact Ho
  iintro Ho
  iapply (wp_ready X W K c _ true (dev2_eq c) (O₁ c) (owe c hops) rfl Ws) $$ [Hc2 Ht2 Ho]
  · isplitr; · iexact HR
    isplitl [Hc2]; · iexact Hc2
    isplitl [Ht2]; · iexact Ht2
    iexact Ho
  iintro Ho
  iapply (wp_both X W K c Ws) $$ [Hcr Hat Ho]
  · isplitr; · iexact HR
    isplitl [Hcr]; · iexact Hcr
    isplitl [Hat]; · iexact Hat
    iexact Ho
  iintro H
  iapply Hk
  iexact H

theorem bodyP_eq : (bodyP : Pr F) = .op .deviceId fun d => shakeP d (ringP d (.ret ⟨⟩)) := rfl

theorem wp_bodyP (c : Dev nD) (Q : PUnit → sProp 𝕄) :
    iprop(recs X W K ∗ pre X W c) ⊢ iprop((post X W c -∗ Q ⟨⟩) -∗ WP c bodyP Q) := by
  have hsplit : ∀ δ, iprop(∃ Y, has c (gM δ) fullShare Y) ⊢ (allW c (gM δ) : sProp 𝕄) := fun δ => win_split c (gM δ)
  rw [bodyP_eq]
  unfold WP pre post
  rw [wp_deviceId]
  iintro ⟨#HR, ⟨Hx, Hw, ⟨%Z, Hout⟩⟩, ⟨⟨Hg1, Hg2⟩, Hc⟩, Ht, Hcr, Hd, Haw, Ho⟩ Hk
  iapply (wp_shake X W K c (ringP c (.ret ⟨⟩)) Q) $$ [Hc Ht Hcr Ho]
  · isplitr; · iexact HR
    isplitl [Hc]; · iexact Hc
    isplitl [Ht]; · iexact Ht
    isplitl [Hcr]; · iexact Hcr
    iexact Ho
  iintro ⟨Ho, Hat, Hb1, Hb2⟩
  ihave Hg1 := (hsplit false) $$ Hg1
  ihave Hg2 := (hsplit true) $$ Hg2
  ihave Hs := (sends_intro c) $$ [Hg1 Hg2 Hb1 Hb2 Hd]
  · isplitl [Hg1 Hg2]; · isplitl [Hg1] <;> iassumption
    isplitl [Hb1 Hb2]; · isplitl [Hb1] <;> iassumption
    iexact Hd
  iapply (wp_ring X W K c (.ret ⟨⟩) Q) $$ [Hx Hw Hout Hs Haw Ho]
  · isplitr; · iexact HR
    isplitl [Hx Hw Hout]
    · unfold work
      isplitl [Hx]; · iexact Hx
      isplitl [Hw]; · iexact Hw
      iexists Z
      isplitr; · ipureintro; exact fun j hj => absurd hj List.not_mem_nil
      iexact Hout
    isplitl [Hs]; · iexact Hs
    isplitl [Haw]; · iexact Haw
    iexact Ho
  iintro ⟨Hx, Hw, Hout, ⟨⟨Hg1, Hg2⟩, Hc1, Hc2⟩, ⟨Hs, Hr⟩, Ho⟩
  ihave Hg1 := (win_join c (gM false)) $$ Hg1
  ihave Hg2 := (win_join c (gM true)) $$ Hg2
  ihave Hc1 := (win_join c (cM false)) $$ Hc1
  ihave Hc2 := (win_join c (cM true)) $$ Hc2
  unfold WP
  rw [wp_ret]
  imod (close_one X W K c none) $$ [Hat] with Hat
  · isplitr; · iexact HR
    iexact Hat
  imod (close_all X W K c false) $$ [Hs] with Hs
  · isplitr; · iexact HR
    iexact Hs
  imod (close_all X W K c true) $$ [Hr] with Hr
  · isplitr; · iexact HR
    iexact Hr
  imodintro
  iapply Hk
  isplitl [Hx Hw Hout]
  · isplitl [Hx]; · iexact Hx
    isplitl [Hw]; · iexact Hw
    iexact Hout
  isplitl [Hg1 Hg2 Hc1 Hc2]
  · isplitl [Hg1 Hg2]; · isplitl [Hg1] <;> iassumption
    isplitl [Hc1] <;> iassumption
  isplitl [Hat Hs Hr]
  · isplitl [Hat]; · iexact Hat
    isplitl [Hs]; · iexact Hs
    iexact Hr
  unfold oweS
  rw [owe_nil]
  iexact Ho

end Cert.Ring

end
-- ==== Proof.Credit.lean ====
/-
The credit the launch gives a device: what its neighbours owe its barrier and receive cells.
-/
module

public import proofs.«01_k».proof.Proof.Body

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What is owed -/

theorem owe_bar (d c : Dev nD) (l : List Hop) : owe d l (barC c) () = 0 := by
  by_contra h
  obtain ⟨p, -, e⟩ := owe_pos (Nat.pos_of_ne_zero h)
  exact absurd (cell_inj e).2 (by simp)

theorem tally_cell (c c' : Dev nD) (k k' : CK) (n : ℕ) : (tallyAt (cell c k) () n : CellTallies nD τ sig Unit) (cell c' k') () = if c = c' ∧ k = k' then n else 0 := by
  rw [tallyAt_apply]
  by_cases h : c = c' ∧ k = k'
  · obtain ⟨rfl, rfl⟩ := h; rw [if_pos ⟨rfl, rfl⟩, if_pos ⟨rfl, rfl⟩]
  · rw [if_neg h, if_neg]
    rintro ⟨e, -⟩
    obtain ⟨e1, e2⟩ := cell_inj e
    exact h ⟨e1.symm, e2.symm⟩

/-- Device `d` owes a receive cell a transfer's credit for each time the hop is listed, if it sends there. -/
theorem owe_rcv (d c : Dev nD) (h : Hop) (l : List Hop) : owe d l (rcvC c h) () = l.count h * if d = srcD h.2.2 c then N else 0 := by
  induction l with
  | nil => rw [owe_nil, List.count_nil, Nat.zero_mul]; rfl
  | cons p l ih =>
    rw [owe_cons, Pi.add_apply, Finsupp.add_apply, ih, tally_cell, List.count_cons, Nat.add_mul]
    congr 1
    by_cases hp : p = h
    · subst hp
      rw [if_pos (beq_self_eq_true p), Nat.one_mul]
      by_cases hd : d = srcD p.2.2 c
      · rw [if_pos hd, if_pos ⟨by rw [hd, dst_src], rfl⟩]
      · rw [if_neg hd, if_neg]; rintro ⟨e, -⟩; exact hd (by rw [← e, src_dst])
    · rw [if_neg (show ¬ (p == h) = true from fun e => hp (eq_of_beq e)), Nat.zero_mul, if_neg]
      rintro ⟨-, e⟩; exact hp (by simpa using e)

theorem hops_count (h : Hop) : hops.count h = 1 := by revert h; decide +kernel

theorem owed_rcv (d c : Dev nD) (h : Hop) : O₀ d (rcvC c h) () = if d = srcD h.2.2 c then N else 0 := by
  unfold O₀ O₁
  rw [Pi.add_apply, Finsupp.add_apply, Pi.add_apply, Finsupp.add_apply, owe_rcv, hops_count, Nat.one_mul, tally_cell, tally_cell,
    if_neg (show ¬ (srcD true d = c ∧ (none : CK) = some (true, h)) from fun e => by simp at e),
    if_neg (show ¬ (srcD false d = c ∧ (none : CK) = some (true, h)) from fun e => by simp at e), Nat.add_zero]

theorem owed_bar (d c : Dev nD) : O₀ d (barC c) () = (if d = dstD true c then 1 else 0) + (if d = dstD false c then 1 else 0) := by
  unfold O₀ O₁
  rw [Pi.add_apply, Finsupp.add_apply, Pi.add_apply, Finsupp.add_apply, owe_bar, tally_cell, tally_cell, Nat.zero_add]
  congr 1
  · by_cases h : d = dstD true c
    · rw [if_pos h, if_pos ⟨by rw [h, src_dst], rfl⟩]
    · rw [if_neg h, if_neg]; rintro ⟨e, -⟩; exact h (by rw [← e, dst_src])
  · by_cases h : d = dstD false c
    · rw [if_pos h, if_pos ⟨by rw [h, src_dst], rfl⟩]
    · rw [if_neg h, if_neg]; rintro ⟨e, -⟩; exact h (by rw [← e, dst_src])

/-! ## The launch's credit -/

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (dstD true c) fun _ => 1, Finset.sum_ite_eq' Finset.univ (dstD false c) fun _ => 1,
    if_pos (Finset.mem_univ _), if_pos (Finset.mem_univ _)]

theorem launch_rcv (c : Dev nD) (h : Hop) :
    tallyOn (rcvC c h) (launchCredit (Pipeline.owing O₀) 0 (rcvC c h)) = (tallyAt (rcvC c h) () N : CellTallies nD τ sig Unit) := by
  unfold tallyAt; refine congrArg _ (Finsupp.ext fun u => ?_); cases u
  rw [Pipeline.launchCredit_owing, Finsupp.single_eq_same, Finset.sum_congr rfl fun d _ => owed_rcv d c h,
    Finset.sum_ite_eq' Finset.univ (srcD h.2.2 c) fun _ => N, if_pos (Finset.mem_univ _)]

/-- The receive semaphores among all. -/
def rcvEmb : Hop ↪ SemLoc sig := ⟨fun h => csem (some (true, h)), fun h h' e => by
  have := csem_inj e; simpa using this⟩

theorem creds (c : Dev nD) :
    (Pipeline.launchCred O₀ c : sProp 𝕄) ⊢ iprop(cred (tallyAt (barC c) () 2) ∗ bigSep Finset.univ fun h : Hop => cred (tallyAt (rcvC c h) () N)) := by
  unfold Pipeline.launchCred
  rw [bigSep_univ_at _ (csem none), launch_bar]
  refine sep_mono_right ((bigSep_subset (t := Finset.univ.map rcvEmb) fun q hq => ?_).trans ?_)
  · obtain ⟨h, -, rfl⟩ := Finset.mem_map.mp hq
    exact Finset.mem_erase.mpr ⟨osem_ne_bar (true, h), Finset.mem_univ _⟩
  · rw [bigSep_map]
    exact sep_each fun h => Entails.of_eq (congrArg cred (launch_rcv c h))

end Cert.Ring

end
-- ==== Proof.Deal.lean ====
/-
The ghost state the launch deals: every cell's invariant to everybody, turns and duties to the devices they belong to.
-/
module

public import proofs.«01_k».proof.Proof.Credit

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → VX F) (W : Dev nD → VW F)

/-! ## Over the cells -/

theorem sep_option {I : Type} [Fintype I] [DecidableEq I] (Φ : Option I → sProp 𝕄) :
    bigSep Finset.univ Φ = iprop(Φ none ∗ bigSep Finset.univ fun i => Φ (some i)) := by
  rw [show (Finset.univ : Finset (Option I)) = insert none (Finset.univ.map Function.Embedding.some) from by
      ext o; cases o <;> simp,
    bigSep_insert (by simp), bigSep_map]
  rfl

/-- Over a device's cells: the barrier, the departures, the landings. -/
theorem sep_cells (Φ : CK → sProp 𝕄) :
    bigSep Finset.univ Φ = iprop(Φ none ∗ (bigSep Finset.univ fun h : Hop => Φ (some (false, h))) ∗ bigSep Finset.univ fun h : Hop => Φ (some (true, h))) := by
  rw [sep_option, bigSep_univ_prod, sep_bool]

/-! ## What is minted -/

abbrev cellE : Dev nD × CK ↪ GSem nD τ sig := ⟨fun ck => cell ck.1 ck.2, fun ck ck' e => Prod.ext (cell_inj e).1 (cell_inj e).2⟩
abbrev tokE : (Dev nD × CK) × Bool ↪ GSem nD τ sig × ℕ × Bool :=
  ⟨fun x => (cell x.1.1 x.1.2, 0, x.2), fun x x' e => by
    have h1 := cellE.injective (congrArg Prod.fst e)
    have h2 := congrArg (fun y : GSem nD τ sig × ℕ × Bool => y.2.2) e
    exact Prod.ext h1 h2⟩
def theCells : Finset (GSem nD τ sig) := Finset.univ.map cellE
def theToks : Finset (GSem nD τ sig × ℕ × Bool) := Finset.univ.map tokE

/-- The duty tokens of a device's own cells. -/
def toks (c : Dev nD) : sProp 𝕄 := bigSep Finset.univ fun k : CK => bigSep Finset.univ fun d : Bool => dutyTok ER (cell c k) 0 d

def G (c : Dev nD) : sProp 𝕄 :=
  iprop((bigSep Finset.univ fun k : CK => roundState ER (Rd X W) (cell c k) 0) ∗ (bigSep Finset.univ fun k : CK => reached ER (cell c k) 0)
    ∗ (bigSep Finset.univ fun k : CK => atPos ER (cell c k) 0 ∅ 0) ∗ toks c)

theorem fund : BI.own (ER (initOf theCells theToks)) ⊢ (|==> bigSep Finset.univ (G X W) : sProp 𝕄) := by
  have hX (Φ : GSem nD τ sig → sProp 𝕄) : bigSep theCells Φ = bigSep Finset.univ fun c : Dev nD => bigSep Finset.univ fun k : CK => Φ (cell c k) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod, bigSep_univ_prod]; rfl
  have h := Rounds.fund ER (Rd X W) theCells theToks
  rw [hX, hX, hX, hT, ← bigSep_sep', ← bigSep_sep', ← bigSep_sep'] at h
  exact h

/-! ## Dealing -/

/-- The invariants and that all cells are at their round. -/
def known (K : Dev nD × CK → ℕ) : sProp 𝕄 :=
  iprop((bigSep Finset.univ fun ck : Dev nD × CK => cellInv ER (Rd X W) (K ck) (cell ck.1 ck.2))
    ∗ bigSep Finset.univ fun ck : Dev nD × CK => reached ER (cell ck.1 ck.2) 0)
instance known_persistent (K : Dev nD × CK → ℕ) : BI.Persistent (known X W K) := by unfold known; infer_instance

/-- What a device is dealt for itself. -/
def own (c : Dev nD) : sProp 𝕄 :=
  iprop((dutyTok ER (barC (srcD false c)) 0 false ∗ dutyTok ER (barC (srcD true c)) 0 true) ∗ atPos ER (barC c) 0 ∅ 0
    ∗ (bigSep Finset.univ fun h : Hop => dealt c h) ∗ bigSep Finset.univ fun h : Hop => atPos ER (rcvC c h) 0 ∅ 0)

def G' (c : Dev nD) : sProp 𝕄 := iprop(∃ K, known X W K ∗ own c)

/-- The tokens that a device pays with. -/
def pays (c : Dev nD) : sProp 𝕄 :=
  iprop((dutyTok ER (barC (srcD false c)) 0 false ∗ dutyTok ER (barC (srcD true c)) 0 true)
    ∗ (bigSep Finset.univ fun h : Hop => dutyTok ER (sndC c h) 0 false) ∗ bigSep Finset.univ fun h : Hop => dutyTok ER (rcvC (dstD h.2.2 c) h) 0 false)

theorem toks_split (c : Dev nD) : (toks c : sProp 𝕄) ⊢ iprop((dutyTok ER (barC c) 0 false ∗ dutyTok ER (barC c) 0 true)
    ∗ (bigSep Finset.univ fun h : Hop => dutyTok ER (sndC c h) 0 false) ∗ bigSep Finset.univ fun h : Hop => dutyTok ER (rcvC c h) 0 false) := by
  unfold toks
  rw [sep_cells]
  simp only [sep_bool, bigSep_sep']
  iintro ⟨⟨H1, H2⟩, ⟨H3, -⟩, ⟨H4, -⟩⟩
  isplitl [H1 H2]; · isplitl [H1] <;> iassumption
  isplitl [H3] <;> iassumption

/-- Every hop turned by one along its direction. -/
def aroundE : Dev nD × Hop ≃ Dev nD × Hop where
  toFun p := (dstD p.2.2.2 p.1, p.2)
  invFun p := (srcD p.2.2.2 p.1, p.2)
  left_inv p := Prod.ext (src_dst _ _) rfl
  right_inv p := Prod.ext (dst_src _ _) rfl

theorem rcv_around : (bigSep Finset.univ fun c : Dev nD => bigSep Finset.univ fun h : Hop => (dutyTok ER (rcvC c h) 0 false : sProp 𝕄))
    = bigSep Finset.univ fun c : Dev nD => bigSep Finset.univ fun h : Hop => dutyTok ER (rcvC (dstD h.2.2 c) h) 0 false := by
  rw [← bigSep_univ_prod (fun p : Dev nD × Hop => (dutyTok ER (rcvC p.1 p.2) 0 false : sProp 𝕄)), bigSep_univ_equiv aroundE, bigSep_univ_prod]
  rfl

/-- Each token goes to the device that pays the duty. -/
theorem toks_around : (bigSep Finset.univ fun c : Dev nD => (toks c : sProp 𝕄)) ⊢ bigSep Finset.univ fun c : Dev nD => pays c := by
  refine (sep_each toks_split).trans ?_
  unfold pays
  simp only [bigSep_sep']
  rw [bigSep_univ_equiv (turn false).symm (fun c : Dev nD => (dutyTok ER (barC c) 0 false : sProp 𝕄)),
    bigSep_univ_equiv (turn true).symm (fun c : Dev nD => (dutyTok ER (barC c) 0 true : sProp 𝕄)), rcv_around]
  exact .rfl

theorem own_intro (c : Dev nD) : iprop((bigSep Finset.univ fun k : CK => atPos ER (cell c k) 0 ∅ 0) ∗ pays c) ⊢ (own c : sProp 𝕄) := by
  rw [sep_cells]
  unfold own pays dealt
  simp only [bigSep_sep']
  iintro ⟨⟨Ha, Hs, Hr⟩, Hb, Ht, Hu⟩
  isplitl [Hb]; · iexact Hb
  isplitl [Ha]; · iexact Ha
  isplitl [Ht Hu Hs]
  · isplitl [Ht]; · iexact Ht
    isplitl [Hu]; · iexact Hu
    iexact Hs
  iexact Hr

/-- A device's semaphores at zero become its cells' invariants. -/
theorem open_cells (c : Dev nD) :
    iprop((bigSep Finset.univ fun k : CK => semVal (cell c k) 0) ∗ G X W c)
      ⊢ |={Set.univ}=> iprop((bigSep Finset.univ fun k : CK => iprop(∃ κ : ℕ, cellInv ER (Rd X W) κ (cell c k)))
          ∗ (bigSep Finset.univ fun k : CK => reached ER (cell c k) 0) ∗ (bigSep Finset.univ fun k : CK => atPos ER (cell c k) 0 ∅ 0) ∗ toks c) := by
  have hopen : iprop((bigSep Finset.univ fun k : CK => semVal (cell c k) 0) ∗ bigSep Finset.univ fun k : CK => roundState ER (Rd X W) (cell c k) 0)
      ⊢ (|={Set.univ}=> bigSep Finset.univ fun k : CK => iprop(∃ κ : ℕ, cellInv ER (Rd X W) κ (cell c k)) : sProp 𝕄) := by
    rw [← bigSep_sep']
    exact (sep_each fun k => (Rounds.body_intro ER (Rd X W) (cell c k)).trans inv_alloc).trans (bigSep_fupd _ _)
  unfold G
  iintro ⟨Hv, Hst, Hr, Ha, Ht⟩
  imod hopen $$ [Hv Hst] with Hi
  · isplitl [Hv] <;> iassumption
  imodintro
  isplitl [Hi]; · iexact Hi
  isplitl [Hr]; · iexact Hr
  isplitl [Ha] <;> iassumption

theorem deal :
    (bigSep Finset.univ fun c : Dev nD => iprop((bigSep Finset.univ fun k : CK => iprop(∃ κ : ℕ, cellInv ER (Rd X W) κ (cell c k)))
          ∗ (bigSep Finset.univ fun k : CK => reached ER (cell c k) 0) ∗ (bigSep Finset.univ fun k : CK => atPos ER (cell c k) 0 ∅ 0) ∗ toks c) : sProp 𝕄)
      ⊢ bigSep Finset.univ (G' X W) := by
  have hname : (bigSep Finset.univ fun ck : Dev nD × CK => iprop(∃ κ : ℕ, cellInv ER (Rd X W) κ (cell ck.1 ck.2)) : sProp 𝕄)
      ⊢ iprop(∃ K : Dev nD × CK → ℕ, bigSep Finset.univ fun ck => cellInv ER (Rd X W) (K ck) (cell ck.1 ck.2)) :=
    bigSep_exists_pi Finset.univ (fun (ck : Dev nD × CK) (κ : ℕ) => (cellInv ER (Rd X W) κ (cell ck.1 ck.2) : sProp 𝕄))
  have hown : iprop((bigSep Finset.univ fun c : Dev nD => bigSep Finset.univ fun k : CK => atPos ER (cell c k) 0 ∅ 0) ∗ bigSep Finset.univ fun c : Dev nD => pays c)
      ⊢ (bigSep Finset.univ fun c : Dev nD => own c : sProp 𝕄) := by
    rw [← bigSep_sep']; exact sep_each own_intro
  have hgive : ∀ K, iprop(known X W K ∗ bigSep Finset.univ fun c : Dev nD => own c) ⊢ (bigSep Finset.univ (G' X W) : sProp 𝕄) := fun K =>
    sep_known fun c => by unfold G'; iintro H; iexists K; iexact H
  simp only [bigSep_sep']
  rw [← bigSep_univ_prod (fun ck : Dev nD × CK => iprop(∃ κ : ℕ, cellInv ER (Rd X W) κ (cell ck.1 ck.2))),
    ← bigSep_univ_prod (fun ck : Dev nD × CK => (reached ER (cell ck.1 ck.2) 0 : sProp 𝕄))]
  iintro ⟨Hi, #Hr, Ha, Ht⟩
  ihave Hi := hname $$ Hi
  icases Hi with ⟨%K, #Hi⟩
  ihave Ht := toks_around $$ Ht
  ihave Ho := hown $$ [Ha Ht]
  · isplitl [Ha] <;> iassumption
  iapply (hgive K)
  isplitr
  · unfold known; isplitr; · iexact Hi
    iexact Hr
  iexact Ho

end Cert.Ring

end
-- ==== Proof.TextEq.lean ====
/-
The printed body is the lanes' text.
-/
module

public import proofs.«01_k».proof.Proof.Text

@[expose] public section

noncomputable section

namespace Cert.Ring

open Cert.KernelIdeal Cert.KernelIdeal.Gen
open Idealize.ShloMosaic Idealize.ShloMosaic.TcCoe Idealize.SL.Sem

variable {F : FTy → Type} [FloatOps F]

set_option maxRecDepth 100000 in
/-- The body as printed is `bodyP`: both unfold to the same sequence of operations. -/
theorem body_eq (t : Fin cfg0.N) : bodyAt0 (F := F) t = bodyP := by
  chain_rfl

end Cert.Ring

end
-- ==== Proof.Main.lean ====
/-
The whole program's run: the launch of the body on every device, and what the arrays hold afterwards.
-/
module

public import proofs.«01_k».proof.Proof.Deal
public import proofs.«01_k».proof.Proof.TextEq
public import Idealize.ShloMosaic.Lib.Pipeline.CollectiveSegs
public import proofs.«01_k».proof.Proof.Gen.KernelIdeal.Launch
public import proofs.«01_k».proof.Proof.Gen.KernelIdeal.Points

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The machine at launch. -/
def s₀ : MemSt nD τ sig (Elt F) := ⟨m, fun _ => 0, ρ⟩

/-- The devices' arguments. -/
def argX (c : Dev nD) : VX F := (win0_0.blk (0 : Fin 1)).view.read (Elt F) ((s₀ m ρ).mem ((c : Thread nD τ).loc main_arg0))
def argW (c : Dev nD) : VW F := (win0_1.blk (0 : Fin 1)).view.read (Elt F) ((s₀ m ρ).mem ((c : Thread nD τ).loc main_arg1))

/-- What device `c` starts from. -/
def start (c : Dev nD) : sProp 𝕄 :=
  iprop(G' (argX m ρ) (argW m ρ) c ∗ (cred (tallyAt (barC c) () 2) ∗ bigSep Finset.univ fun h : Hop => cred (tallyAt (rcvC c h) () N)) ∗ levAts L lv)

/-- The kernel's four buffers, with whatever they hold. -/
def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m ρ c ∗ bufs c)
def Φ₁ (c : Dev nD) : sProp 𝕄 :=
  iprop(bufs c ∗ semVal (barC c) 0 ∗ (bigSep Finset.univ fun h : Hop => semVal (sndC c h) 0) ∗ bigSep Finset.univ fun h : Hop => semVal (rcvC c h) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => argX m ρ c
    | ⟨1, _⟩ => argW m ρ c
    | ⟨2, _⟩ => finalV (argX m ρ) (argW m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body's obligation -/

/-- Owning a whole buffer's memref is owning the buffer. -/
theorem has_whole (c : Dev nD) (b : Ref sig .tc) (Y : b.ty.Contents (Elt F)) :
    (owns (Ix := Unit) (Name := ℕ) (U := UU) (Lvl := ℕ) (c : Thread nD τ) (Memref.whole b) fullShare Y : sProp 𝕄) = (((c : Thread nD τ).loc b) ↦{fullShare} Y) :=
  owns_whole (c : Thread nD τ) b fullShare Y

theorem bufs_eq (c : Dev nD) : (bufs c : sProp 𝕄)
    = iprop((∃ Y, has c (cM false) fullShare Y) ∗ (∃ Y, has c (cM true) fullShare Y) ∗ (∃ Y, has c (gM false) fullShare Y) ∗ ∃ Y, has c (gM true) fullShare Y) := by
  unfold bufs has cM gM
  simp only [has_whole]
  rfl

abbrev p₀ : Fin cfg0.N := t0_0

def bodyPre (c : Dev nD) : sProp 𝕄 :=
  iprop(Φ₀ m ρ c ∗ (dats m ρ 0 c).owesAt () p₀.castSucc
    ∗ (∃ d, has c xM fullShare ((dats m ρ 0 c).before (0 : Fin 3) p₀ d))
    ∗ (∃ d, has c wM fullShare ((dats m ρ 0 c).before (1 : Fin 3) p₀ d))
    ∗ (∃ d, has c oM fullShare ((dats m ρ 0 c).before (2 : Fin 3) p₀ d)))
def bodyPost (c : Dev nD) : sProp 𝕄 :=
  iprop(Φ₁ c ∗ (dats m ρ 0 c).owesAt () p₀.succ ∗ has c xM fullShare (argX m ρ c) ∗ has c wM fullShare (argW m ρ c) ∗ has c oM fullShare (finalV (argX m ρ) (argW m ρ) c))

theorem recs_of (X : Dev nD → VX F) (W : Dev nD → VW F) (K : Dev nD × CK → ℕ) : iprop(known X W K ∗ levAts L lv) ⊢ (recs X W K : sProp 𝕄) := by
  unfold known recs
  iintro ⟨⟨H1, H2⟩, H3⟩
  isplitl [H1]; · iexact H1
  isplitl [H2] <;> iassumption

theorem awaits_of (c : Dev nD) : iprop((bigSep Finset.univ fun h : Hop => cred (tallyAt (rcvC c h) () N)) ∗ bigSep Finset.univ fun h : Hop => atPos ER (rcvC c h) 0 ∅ 0)
    ⊢ (bigSep Finset.univ fun h : Hop => awaits c h : sProp 𝕄) := by
  unfold awaits; rw [← bigSep_sep']

theorem run_body (c : Dev nD) : bodyPre m ρ c ⊢ WP c bodyP fun _ => bodyPost m ρ c := by
  have hx : ∀ d, (dats m ρ 0 c).before (0 : Fin 3) p₀ d = argX m ρ c := fun d => by unfold Dat.before; rw [if_pos (fetch0_0 p₀)]; rfl
  have hw : ∀ d, (dats m ρ 0 c).before (1 : Fin 3) p₀ d = argW m ρ c := fun d => by unfold Dat.before; rw [if_pos (fetch0_1 p₀)]; rfl
  unfold bodyPre Φ₀ start G' own
  simp only [hx, hw]
  rw [bufs_eq]
  iintro ⟨⟨⟨⟨%K, #Hk, Hbt, Hat, Hd, Hr⟩, ⟨Hcb, Hcr⟩, #Hlev⟩, Hc1, Hc2, Hg1, Hg2⟩, Ho, ⟨%d0, Hx⟩, ⟨%d1, Hw⟩, ⟨%d2, Hout⟩⟩
  unfold Dat.owesAt Pipeline.owesWithin
  icases Ho with ⟨%Ws, %hW, HO⟩
  rw [show (dats m ρ 0 c).owed p₀.castSucc = O₀ c from rfl]
  ihave #HR := (recs_of (argX m ρ) (argW m ρ) K) $$ [Hk Hlev]
  · isplitr; · iexact Hk
    iexact Hlev
  ihave Haw := (awaits_of c) $$ [Hcr Hr]
  · isplitl [Hcr] <;> iassumption
  iapply (wp_bodyP (argX m ρ) (argW m ρ) K c (fun _ => bodyPost m ρ c)) $$ [Hbt Hat Hd Hcb Hc1 Hc2 Hg1 Hg2 Hx Hw Hout HO Haw]
  · isplitr; · iexact HR
    unfold pre
    isplitl [Hx Hw Hout]
    · isplitl [Hx]; · iexact Hx
      isplitl [Hw]; · iexact Hw
      iexists _; iexact Hout
    isplitl [Hc1 Hc2 Hg1 Hg2]
    · isplitl [Hg1 Hg2]; · isplitl [Hg1] <;> iassumption
      isplitl [Hc1] <;> iassumption
    isplitl [Hbt]; · iexact Hbt
    isplitl [Hcb Hat]; · isplitl [Hcb] <;> iassumption
    isplitl [Hd]; · iexact Hd
    isplitl [Haw]; · iexact Haw
    iexists Ws; iexact HO
  unfold post bodyPost Φ₁ Dat.owesAt Pipeline.owesWithin
  rw [bufs_eq, show (dats m ρ 0 c).owed p₀.succ = 0 from rfl]
  iintro ⟨⟨Hx, Hw, Hout⟩, ⟨⟨Hg1, Hg2⟩, Hc1, Hc2⟩, Hz, ⟨%Ws', HO⟩⟩
  isplitl [Hc1 Hc2 Hg1 Hg2 Hz]
  · isplitl [Hc1 Hc2 Hg1 Hg2]
    · isplitl [Hc1]; · iexact Hc1
      isplitl [Hc2]; · iexact Hc2
      isplitl [Hg1] <;> iassumption
    iexact Hz
  isplitl [HO]
  · iexists Ws'
    isplitr; · ipureintro; exact fun _ _ => Or.inl trivial
    iexact HO
  isplitl [Hx]; · iexact Hx
  isplitl [Hw]; · iexact Hw
  iexact Hout

set_option maxRecDepth 100000 in
theorem obligation (c : Dev nD) : BodyObligation (dats (F := F) m ρ 0 c) (defs₀ (F := F)) 𝒱₀ () Set.univ := fun t => by
  rw [show t = p₀ from fin_N0 t]
  rw [bigSep_W0, bigSep_W0]
  show bodyPre m ρ c ⊢ WP c (bodyAt0 p₀) fun _ => bodyPost m ρ c
  rw [body_eq]
  exact run_body m ρ c

/-! ## The launch -/

theorem ownFacts : Pipeline.OwnSemFacts cfg0.spec osem where
  isScoped k := by obtain ⟨q, e, -⟩ := osem_no k; rw [e]; exact (show ∀ q : DmaSem sig, (SemLoc.dma q : SemLoc sig).isScoped .tc = true from by decide +kernel) q
  inj := osem_inj
  disj k w s h := by
    obtain ⟨q, e, n⟩ := osem_no k
    rw [e] at h
    have hq : q.val < 3 := by
      rw [SemLoc.dma.inj h]
      exact (show ∀ (w : Fin 3) (s : Fin (spec0 w).nbuf), ((spec0 w).sem s).val < 3 from by decide) w s
    obtain ⟨k, s', b, δ⟩ := k
    rw [n] at hq
    simp only [semNo] at hq
    omega

theorem shares (c : Dev nD) (w : Fin cfg0.W) : (dats m ρ 0 c).share w = fullShare := by unfold Dat.share; split <;> rfl

def u₀ : UU := (initOf (Pipeline.cells cfgs cellOf_inj) (Pipeline.launchToks cfgs cellOf_inj), initOf theCells theToks)

theorem unscoped_eq (c : Dev nD) : (unscopedSems0 c : sProp 𝕄) = semVal (barC c) 0 := by
  unfold unscopedSems0; rw [bigSep_eq_bigSepL_of_eq [SemLoc.reg barSem] (by decide +kernel) (by decide)]; rfl

theorem ownSems_eq (c : Dev nD) : (Pipeline.ownSems0 (Ix := Unit) (Name := ℕ) (U := UU) (Lvl := ℕ) (Val := Elt F) (τ := τ) osem c : sProp 𝕄)
    = iprop((bigSep Finset.univ fun h : Hop => semVal (sndC c h) 0) ∗ bigSep Finset.univ fun h : Hop => semVal (rcvC c h) 0) := by
  unfold Pipeline.ownSems0
  rw [bigSep_univ_prod, sep_bool]; rfl

theorem sems_all (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (cell c k) 0 : sProp 𝕄) := by
  rw [ownSems_eq, unscoped_eq, sep_cells]
  iintro ⟨H, HB⟩
  isplitl [HB]; · iexact HB
  iexact H

theorem glob : (bigSep Finset.univ fun c => iprop(Pipeline.ownSems0 (Ix := Unit) (Name := ℕ) (U := UU) (Lvl := ℕ) (Val := Elt F) (τ := τ) osem c
      ∗ unscopedSems0 c ∗ G (argX m ρ) (argW m ρ) c) : sProp 𝕄)
    ⊢ |={Set.univ}=> bigSep Finset.univ (G' (argX m ρ) (argW m ρ)) := by
  refine ((sep_each fun c => ?_).trans (bigSep_fupd _ _)).trans (BI.fupd_mono (deal (argX m ρ) (argW m ρ)))
  refine BIBase.Entails.trans ?_ (open_cells (argX m ρ) (argW m ρ) c)
  iintro ⟨H1, H2, HG⟩
  isplitr [HG]
  · iapply (sems_all c)
    isplitl [H1] <;> iassumption
  iexact HG

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argX m ρ) (argW m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  iintro ⟨Hs, -, Hr⟩
  isplitl [Hs]; · iexact Hs
  iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems_eq, unscoped_eq]
  unfold Φ₁ bufs
  iintro ⟨Hr, HB, HS⟩
  isplitl [HB]; · iexact HB
  isplitl [HS]; · iexact HS
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (fun k h => ownFacts.disj k w s h) _ (by
      rcases t with ⟨_ | _, ht⟩
      · exact Or.inl rfl
      · exact Or.inr rfl)

/-! ## The run -/

/-- What the windows' arrays hold after the run. -/
def finalA (c : Dev nD) (w : Fin cfg0.W) : Buf (Elt F) ((cfg0.win w).arr.view.loc (c : Thread nD τ)) := (dats m ρ 0 c).arrAt w cfg0.N

set_option maxRecDepth 100000 in
/-- From any memory with all counters at zero, on four devices, every fair run of the program ends, with the arrays
    as computed and all counters at zero again. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownFacts (Pipeline.PreFacts.none _) EP defs₀ 𝒱₀ m ρ main
    (hmain := fun _ => rfl)
    (hbody := obligation m ρ) (hne := block_pos0) (harr := arr_whole0) (hstage := stage_whole0) (hshare := shares m ρ)
    (hdistinct := winFacts0.arr_inj)
    (O₀ := O₀) (howed₀ := fun _ => rfl) (howedN := fun _ => rfl)
    (L := L) (lv := lv) (hL := L_of_ne) (hwaits := waits m ρ)
    (G := G (argX m ρ) (argW m ρ)) (G' := G' (argX m ρ) (argW m ρ)) (u₀ := u₀)
    (hu₀ := by
      unfold u₀
      iintro Hu
      ihave H := (ownU_pair _ _) $$ Hu
      icases H with ⟨HP, HX⟩
      imod (fund (argX m ρ) (argW m ρ)) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

theorem argX_eq (c : Dev nD) : argX m ρ c = m ((c : Thread nD τ).loc main_arg0) :=
  Memref.read_access_unit_zero (Elt F) main_arg0 (funext fun a => by fin_cases a <;> rfl) (fun a => by fin_cases a <;> decide) _
theorem argW_eq (c : Dev nD) : argW m ρ c = m ((c : Thread nD τ).loc main_arg1) :=
  Memref.read_access_unit_zero (Elt F) main_arg1 (funext fun a => by fin_cases a <;> rfl) (fun a => by fin_cases a <;> decide) _

/-- The result array holds the finished blocks. -/
theorem finalA_o (c : Dev nD) : finalA m ρ c (2 : Fin 3) = finalV (argX m ρ) (argW m ρ) c := by
  have h : (win0_2.blk (0 : Fin 1)).view.read (Elt F) (finalA m ρ c (2 : Fin 3)) = finalV (argX m ρ) (argW m ρ) c := by
    unfold finalA
    rw [show cfg0.N = (p₀ : Fin cfg0.N).val + 1 from rfl, (dats m ρ 0 c).arrAt_succ (2 : Fin 3) p₀]
    rw [flush0_2 p₀, if_pos rfl]
    exact View.read_write_univ _ _
  exact (Memref.read_access_unit_zero (Elt F) main_v1 (funext fun a => by fin_cases a <;> rfl) (fun a => by fin_cases a <;> decide) _).symm.trans h

end Cert.Ring

end
-- ==== Proof.Frames.lean ====
/-
The claims that the programs run, leave their arguments as they were, and end with every counter at zero.
-/
module

public import proofs.«01_k».proof.Proof.Main
public import proofs.«01_k».proof.Defs
public import proofs.«01_k».proof.Proof.Gen.Kernel
public import proofs.«01_k».proof.Proof.Gen.ReferenceIdeal.Run
public import proofs.«01_k».proof.Proof.Gen.SiluIdeal.Run

@[expose] public section

noncomputable section

namespace Cert.Ring

open Idealize.ShloMosaic Idealize.SL.Sem

/-- The kernel over the extended reals. -/
theorem frame_ideal : Cert.quiescent_KernelIdeal := by
  intro m ρ _
  exact (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := Ideal) m ρ)

/-- The kernel's program over the machine's own floats, as the idealized text spells it. -/
theorem frame_text (m : (ℓ : Loc KernelIdeal.nD KernelIdeal.τ KernelIdeal.sig) → Buf (Elt Bits) ℓ) (ρ : Dev KernelIdeal.nD → PrngReg) :
    θ_run (KernelIdeal.defs (F := Bits)) (onTc (τ := KernelIdeal.τ) (KernelIdeal.main (F := Bits))) ⟨m, fun _ => 0, ρ⟩ (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0) :=
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := Bits) m ρ)

/-- The table of bodies is the same in both texts. -/
theorem bodies_eq : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l a
  match l, a with
  | 0, (t, s) => rfl
  | ⟨_ + 1, h⟩, _ => exact absurd h (Nat.not_lt.2 (Nat.le_add_left _ _))

/-- So is the table with the pipeline's own entries. -/
theorem table_eq : Cert.Kernel.defs (F := Bits) = Cert.KernelIdeal.defs (F := Bits) :=
  congrArg (Pipeline.defs (Cert.KernelIdeal.pcfgs (F := Bits))) bodies_eq

/-- The kernel over the machine's own floats; its program is the same text. -/
theorem frame_bits : Cert.quiescent_Kernel := by
  intro m ρ _
  have h := frame_text m ρ
  rw [← table_eq] at h
  exact h

/-- The reference, which uses no counter at all. -/
theorem frame_reference : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- The plain SiLU, likewise. -/
theorem frame_silu : Cert.quiescent_SiluIdeal := by
  intro m ρ _
  exact (θ_run Cert.SiluIdeal.defs _ _).mono
    (fun r h => ⟨fun c => (h c).2, sem_eq_zero_of_no_sems (by decide) r.2⟩)
    (Cert.SiluIdeal.Value.run (F := Ideal) m ρ)

end Cert.Ring

end
-- ==== Proof.Silu.lean ====
/-
The epilogue over the extended reals: `y` times its logistic is `y / (1 + exp (-y))`, everywhere; and clipping at ±60
does nothing where `|y| ≤ 60`.
-/
module

public import Idealize.ShloMosaic.PureOps.Ideal
public import Idealize.ShloMosaic.PureOps.Ideal.Laws
public import Idealize.ShloMosaic.Lib.IdealHost

@[expose] public section

noncomputable section

namespace Cert.Ring

open Idealize.ShloMosaic

/-- `y` times its logistic. -/
def siluE (y : EReal) : EReal := y * Ideal.logistic y

/-- An exponential is not negative. -/
theorem exp_nonneg (y : EReal) : 0 ≤ Ideal.exp y := by
  induction y with
  | bot => exact le_refl _
  | top => exact le_top
  | coe r => exact EReal.coe_nonneg.mpr (Real.exp_pos r).le

/-- The divisor is at least one, infinite or not. -/
theorem divisor_ne_zero (y : EReal) : 1 + Ideal.exp (-y) ≠ 0 := fun e => by
  have h : (1 : EReal) ≤ 1 + Ideal.exp (-y) := le_add_of_nonneg_right (exp_nonneg _)
  rw [e] at h
  exact absurd h (by simp)

/-- The quotient form. -/
theorem siluE_div (y : EReal) : Ideal.div y (1 + Ideal.exp (-y)) = siluE y :=
  (Ideal.mul_one_div (divisor_ne_zero y)).symm

/-- The f32 words of the clip's bounds. -/
theorem word_sixty : Ideal.ofBits .f32 0x42700000#32 = ((60 : ℝ) : EReal) := by
  simp [Ideal.ofBits, Ideal.ieee, -EReal.coe_mul]; norm_num
theorem word_minus_sixty : Ideal.ofBits .f32 0xC2700000#32 = ((-60 : ℝ) : EReal) := by
  simp [Ideal.ofBits, Ideal.ieee, -EReal.coe_mul, -EReal.coe_neg]; norm_num

/-- Within the bounds the clip is idle. -/
theorem clip_id (y : EReal) (h : max y (-y) ≤ ((60 : ℝ) : EReal)) : min ((60 : ℝ) : EReal) (max ((-60 : ℝ) : EReal) y) = y := by
  have h1 : y ≤ ((60 : ℝ) : EReal) := (le_max_left _ _).trans h
  have h2 : ((-60 : ℝ) : EReal) ≤ y := by
    have h3 : -y ≤ ((60 : ℝ) : EReal) := (le_max_right _ _).trans h
    rw [EReal.coe_neg]
    exact EReal.neg_le.mp h3
  rw [max_eq_right h2, min_eq_right h1]

end Cert.Ring

end
-- ==== Proof.Total.lean ====
/-
Over the extended reals the hops only add: what a lane carries is the sum of the parts it has met, and after the third
hop the epilogue of the sum over all four devices, the same on every device.
-/
module

public import proofs.«01_k».proof.Proof.Ends
public import proofs.«01_k».proof.Proof.Silu

@[expose] public section

noncomputable section

namespace Cert.Ring

open Cert.KernelIdeal Cert.KernelIdeal.Gen
open Idealize.ShloMosaic Idealize.ShloMosaic.TcCoe Idealize.SL.Sem
open scoped BigOperators

/-- A block's index with the leading unit axis that a slot has. -/
def up (i : S64x512.Idx) : S1x64x512.Idx := Shape.reshapeEquiv shapeCasts_S1x64x512_S64x512 i

theorem drop_up {α : Type} (x : S64x512.Idx → α) (i : S64x512.Idx) :
    shapeCast S1x64x512 x shapeCasts_S64x512_S1x64x512 (up i) = x i := by
  unfold shapeCast up
  rw [Shape.reshapeEquiv_reshapeEquiv, Shape.reshapeEquiv_self]

theorem same {α : Type} (x : S64x512.Idx → α) (i : S64x512.Idx) : shapeCast S64x512 x shapeCasts_S64x512_S64x512 i = x i :=
  congrArg x (Shape.reshapeEquiv_self _ i)

/-! ## The operations at an index -/

theorem pay4_at (v : Vec Ideal S64x512 .f32) (i : S64x512.Idx) : k0_pay4 v (up i) = v i := by
  unfold k0_pay4
  rw [drop_up]
  exact same v i

/-- The sum of a part and what has landed. -/
theorem sum_at (v : Vec Ideal S64x512 .f32) (u : Vec Ideal S1x64x512 .bf16) (i : S64x512.Idx) :
    addf (F := Ideal) (shapeCast S64x512 v shapeCasts_S64x512_S64x512)
      (extf .f32 (shapeCast S64x512 u shapeCasts_S1x64x512_S64x512) bitsLt_bf16_f32) i = (v i + u (up i) : EReal) := by
  show (shapeCast S64x512 v shapeCasts_S64x512_S64x512 i + shapeCast S64x512 u shapeCasts_S1x64x512_S64x512 i : EReal) = _
  rw [same]
  rfl

theorem pay15_at (v : Vec Ideal S64x512 .f32) (u : Vec Ideal S1x64x512 .bf16) (i : S64x512.Idx) :
    k0_pay15 v u (up i) = (v i + u (up i) : EReal) := by
  unfold k0_pay15 k0_pay14
  rw [drop_up]
  exact sum_at v u i

/-- The epilogue of a block is the epilogue of each element. -/
theorem silu_at (z : FVec Ideal S64x512 .f32) (i : S64x512.Idx) : mulf z (logistic z) i = siluE (z i) := rfl

theorem pay49_at (v : Vec Ideal S64x512 .f32) (u : Vec Ideal S1x64x512 .bf16) (i : S64x512.Idx) :
    k0_pay49 v u i = siluE (v i + u (up i) : EReal) := by
  unfold k0_pay49
  rw [silu_at, sum_at]

theorem pay66_at (v : Vec Ideal S64x512 .f32) (u : Vec Ideal S1x64x512 .bf16) (i : S64x512.Idx) :
    k0_pay66 v u (up i) = siluE (v i + u (up i) : EReal) := by
  unfold k0_pay66 k0_pay65
  rw [drop_up]
  refine (silu_at _ i).trans ?_
  rw [sum_at]

theorem pay69_at (u : Vec Ideal S1x64x512 .bf16) (i : S64x512.Idx) : k0_pay69 u i = u (up i) := rfl

/-! ## The sum -/

variable (X : Dev nD → VX Ideal) (W : Dev nD → VW Ideal)

/-- Device `d`'s part of a block. -/
abbrev prt (d : Dev nD) (j : Fin 4) (a : Lane) (i : S64x512.Idx) : EReal := partV (X d) (W d) j a i

/-- The four devices' parts, summed. -/
def total (j : Fin 4) (a : Lane) (i : S64x512.Idx) : EReal := ∑ d : Dev nD, prt X W d j a i

/-- A device and the one before it work on the same chunk, one step apart. -/
theorem chunk_src (c : Dev nD) (δ : Bool) (s : Nat) : chunkAt (srcD δ c) δ s = chunkAt c δ (s + 1) := by
  cases δ
  · refine Fin.ext ?_
    show ((c.val + 3) % 4 + 4 * s - s) % 4 = (c.val + 4 * (s + 1) - (s + 1)) % 4
    omega
  · refine Fin.ext ?_
    show ((c.val + 1) % 4 + s) % 4 = (c.val + (s + 1)) % 4
    omega

/-- Chunks come round after four steps. -/
theorem chunk_round (c : Dev nD) (δ : Bool) (s : Nat) : chunkAt c δ (s + 4) = chunkAt c δ s := by
  cases δ
  · refine Fin.ext ?_
    show (c.val + 4 * (s + 4) - (s + 4)) % 4 = (c.val + 4 * s - s) % 4
    omega
  · refine Fin.ext ?_
    show (c.val + (s + 4)) % 4 = (c.val + s) % 4
    omega

/-- The sum over the devices, taken in the order in which a lane meets them. -/
theorem sum_ring (c : Dev nD) (δ : Bool) (f : Dev nD → EReal) :
    f c + (f (srcD δ c) + (f (srcD δ (srcD δ c)) + f (srcD δ (srcD δ (srcD δ c))))) = ∑ d : Dev nD, f d := by
  have e : ∑ d : Dev nD, f d = f 0 + f 1 + f 2 + f 3 := Fin.sum_univ_four f
  rw [e]
  cases δ
  · match c with
    | 0 => show f 0 + (f 3 + (f 2 + f 1)) = _; abel
    | 1 => show f 1 + (f 0 + (f 3 + f 2)) = _; abel
    | 2 => show f 2 + (f 1 + (f 0 + f 3)) = _; abel
    | 3 => show f 3 + (f 2 + (f 1 + f 0)) = _; abel
  · match c with
    | 0 => show f 0 + (f 1 + (f 2 + f 3)) = _; abel
    | 1 => show f 1 + (f 2 + (f 3 + f 0)) = _; abel
    | 2 => show f 2 + (f 3 + (f 0 + f 1)) = _; abel
    | 3 => show f 3 + (f 0 + (f 1 + f 2)) = _; abel

variable (a : Lane) (i : S64x512.Idx)

theorem sent_0 (c : Dev nD) : sentV X W a 0 c (up i) = prt X W c (chunkAt c a.2 0) a i := pay4_at _ i

theorem sent_1 (c : Dev nD) : sentV X W a 1 c (up i)
    = (prt X W c (chunkAt c a.2 1) a i + prt X W (srcD a.2 c) (chunkAt c a.2 1) a i : EReal) := by
  refine (pay15_at _ _ i).trans ?_
  rw [sent_0, chunk_src]

theorem sent_2 (c : Dev nD) : sentV X W a 2 c (up i)
    = (prt X W c (chunkAt c a.2 2) a i + (prt X W (srcD a.2 c) (chunkAt c a.2 2) a i
      + prt X W (srcD a.2 (srcD a.2 c)) (chunkAt c a.2 2) a i) : EReal) := by
  refine (pay15_at _ _ i).trans ?_
  rw [sent_1, chunk_src]

/-- The last hop's own part and what arrives are the whole sum. -/
theorem met (c : Dev nD) : (prt X W c (chunkAt c a.2 3) a i + sentV X W a 2 (srcD a.2 c) (up i) : EReal) = total X W (chunkAt c a.2 3) a i := by
  rw [sent_2, chunk_src]
  exact sum_ring c a.2 fun d => prt X W d (chunkAt c a.2 3) a i

/-- From the third hop on, a lane carries finished blocks. -/
theorem sent_done (n : Nat) : ∀ c : Dev nD, sentV X W a (n + 3) c (up i) = siluE (total X W (chunkAt c a.2 (n + 3)) a i) := by
  induction n with
  | zero => exact fun c => (pay66_at _ _ i).trans (congrArg siluE (met X W a i c))
  | succ n ih =>
    intro c
    refine (ih (srcD a.2 c)).trans ?_
    rw [chunk_src]

/-- What a device keeps of a chunk. -/
theorem out_at (s : Fin 4) (c : Dev nD) : outV X W a s.val c i = siluE (total X W (chunkAt c a.2 s.val) a i) := by
  have h (n : Nat) : landV X W a (3 + n) c (up i) = siluE (total X W (chunkAt c a.2 n) a i) := by
    unfold landV
    rw [Nat.add_comm 3 n, sent_done, chunk_src, chunk_round]
  match s with
  | 0 => exact (pay69_at _ i).trans (h 0)
  | 1 => exact (pay69_at _ i).trans (h 1)
  | 2 => exact (pay69_at _ i).trans (h 2)
  | 3 => exact (pay49_at _ _ i).trans (congrArg siluE (met X W a i c))

/-- So every device ends with the same block. -/
theorem out_total (c : Dev nD) (j : Fin 4) : outJ X W c j a i = siluE (total X W j a i) := by
  unfold outJ
  rw [out_at, chunk_step]

end Cert.Ring

end
-- ==== Proof.Product.lean ====
/-
The four devices' parts, from their columns of `x` and their rows of `w`, sum to the product of the whole arrays: the
sum over 1024 columns is cut in four.
-/
module

public import proofs.«01_k».proof.Proof.Total
public import Idealize.ShloMosaic.Lib.Layout
public import Idealize.ShloMosaic.Lib.MatmulPlain

@[expose] public section

noncomputable section

namespace Cert.Ring

open Cert.KernelIdeal Cert.KernelIdeal.Gen
open Idealize.ShloMosaic Idealize.ShloMosaic.TcCoe Idealize.SL.Sem Idealize.ShloMosaic.ValueIdx
open scoped BigOperators

/-- A whole argument. -/
abbrev Whole := S1024x1024.Idx → EReal

/-- The product of two whole arrays. -/
def prodE (x w : Whole) (p : S1024x1024.Idx) : EReal := ∑ k : Fin 1024, x (ix2 (p 0) k) * w (ix2 k (p 1))

/-- An element of a device's product chunk. -/
theorem chunk_at (X : VX Ideal) (W : VW Ideal) (j : Fin 4) (r : Fin 256) (q : Fin 1024) :
    chunkV X W j (ix2 r q) = (∑ k : Fin 256, X ((rX j).emb (ix2 r k)) * W (rW.emb (ix2 k q)) : EReal) := by
  unfold chunkV k0_pay1
  have h1 (x : Vec Ideal S256x256 .f32) : shapeCast S256x256 x shapeCasts_S256x256_S256x256 = x :=
    funext fun i => congrArg x (Shape.reshapeEquiv_self _ i)
  have h2 (x : Vec Ideal S256x1024 .f32) : shapeCast S256x1024 x shapeCasts_S256x1024_S256x1024 = x :=
    funext fun i => congrArg x (Shape.reshapeEquiv_self _ i)
  rw [h1, h2]
  refine (Ideal.matmul_plain_apply (M := 256) (K := 256) (N := 1024) none _ _ _ r q).trans ?_
  have h0 : (constant S256x1024 .f32 0x00000000#32 : FVec Ideal S256x1024 .f32) (ix2 r q) = (0 : EReal) := by
    show Ideal.ofBits .f32 0x00000000#32 = 0
    simp [Ideal.ofBits, Ideal.ieee]
  rw [h0, zero_add]

variable (x w : Whole)

/-- Device `d`'s columns of `x` and rows of `w`. -/
abbrev cutX (d : Dev nD) : VX Ideal := Layout.block ⟨2, ![1024, 256]⟩ ⟨2, ![1024, 1024]⟩ 1 4 d x
abbrev cutW (d : Dev nD) : VW Ideal := Layout.block ⟨2, ![256, 1024]⟩ ⟨2, ![1024, 1024]⟩ 0 4 d w

/-- Column `k` of device `d`'s, among all. -/
def col (d : Fin 4) (k : Fin 256) : Fin 1024 := ⟨d.val * 256 + k.val, by omega⟩

theorem cutX_at (d : Dev nD) (r : Fin 1024) (k : Fin 256) : cutX x d (ix2 r k) = x (ix2 r (col d k)) := by
  refine congrArg x (funext fun b => Fin.ext ?_)
  match b with
  | ⟨0, _⟩ => rfl
  | ⟨1, _⟩ => rfl

theorem cutW_at (d : Dev nD) (k : Fin 256) (q : Fin 1024) : cutW w d (ix2 k q) = w (ix2 (col d k) q) := by
  refine congrArg w (funext fun b => Fin.ext ?_)
  match b with
  | ⟨0, _⟩ => rfl
  | ⟨1, _⟩ => rfl

/-- The sum over all columns, device by device. -/
theorem sum_cols (f : Fin 1024 → EReal) : ∑ d : Fin 4, ∑ k : Fin 256, f (col d k) = ∑ K : Fin 1024, f K := by
  rw [← Fintype.sum_prod_type' (fun (d : Fin 4) (k : Fin 256) => f (col d k))]
  refine Fintype.sum_equiv (finProdFinEquiv (m := 4) (n := 256)) _ _ fun t => congrArg f (Fin.ext ?_)
  show t.1.val * 256 + t.2.val = t.2.val + 256 * t.1.val
  omega

/-- The summed parts of a block are the block of the product. -/
theorem total_prod (j : Fin 4) (a : Lane) (i : S64x512.Idx) :
    total (cutX x) (cutW w) j a i = prodE x w ((rB j a).emb i) := by
  have hr : ((rC a).emb i 0).val < 256 := ((rC a).emb i 0).isLt
  have hq : ((rC a).emb i 1).val < 1024 := ((rC a).emb i 1).isLt
  have ei : (rC a).emb i = ix2 (⟨_, hr⟩ : Fin 256) (⟨_, hq⟩ : Fin 1024) := by
    funext k
    match k with
    | ⟨0, _⟩ => rfl
    | ⟨1, _⟩ => rfl
  unfold total prodE
  rw [← sum_cols]
  refine Finset.sum_congr rfl fun d _ => ?_
  show chunkV (cutX x d) (cutW w d) j ((rC a).emb i) = _
  rw [ei, chunk_at]
  refine Finset.sum_congr rfl fun k _ => ?_
  have e0 : (rX j).emb (ix2 (⟨_, hr⟩ : Fin 256) k) = ix2 ((rB j a).emb i 0) k := by
    rw [rB_emb]
    funext b
    refine Fin.ext ?_
    match b with
    | ⟨0, _⟩ => rfl
    | ⟨1, _⟩ => show 0 + 1 * k.val = k.val; omega
  have e1 : rW.emb (ix2 k (⟨_, hq⟩ : Fin 1024)) = ix2 k ((rB j a).emb i 1) := by
    rw [rB_emb]
    funext b
    refine Fin.ext ?_
    match b with
    | ⟨0, _⟩ => show 0 + 1 * k.val = k.val; omega
    | ⟨1, _⟩ => rfl
  rw [e0, e1]
  exact congrArg₂ (fun a b : EReal => a * b) (cutX_at x d _ k) (cutW_at w d k _)

/-- Every device's result is the epilogue of the product. -/
theorem final_at (c : Dev nD) (p : S1024x1024.Idx) : finalV (cutX x) (cutW w) c p = siluE (prodE x w p) := by
  have hp : p ∈ Finset.univ.biUnion fun t => (rT t).set := by rw [rT_cover]; exact Finset.mem_univ p
  obtain ⟨t, -, ht⟩ := Finset.mem_biUnion.mp hp
  obtain ⟨i, rfl⟩ : ∃ i : S64x512.Idx, (rB t.1 t.2).emb i = p := (rT t).toLoadRect.exists_idx_of_mem ht
  refine (finalV_spec _ _ c t.1 t.2 i).trans ?_
  rw [out_total, total_prod]

end Cert.Ring

end
-- ==== Proof.Values.lean ====
/-
The value claims: over the extended reals every device's result is the reference's, wherever its clip is idle, and
plain SiLU's everywhere.
-/
module

public import proofs.«01_k».proof.Proof.Frames
public import proofs.«01_k».proof.Proof.Product

@[expose] public section

noncomputable section

namespace Cert.Ring

open Idealize.ShloMosaic Idealize.SL.Sem Idealize.ShloMosaic.ValueIdx

/-- The facts that the mask's text states. -/
instance maskFacts : Cert.On_clip_idle.Facts where
  bcast_S_S1024x1024 := Cert.ReferenceIdeal.Facts₀.bcast_S_S1024x1024
  dot_S1024x1024_S1024x1024_S1024x1024_1_0_0_1_n_n_wf := Cert.ReferenceIdeal.Facts₀.dot_S1024x1024_S1024x1024_S1024x1024_1_0_0_1_n_n_wf

/-- The host's product is the product. -/
theorem host_prod (x w : Whole) (p : Cert.ReferenceIdeal.S1024x1024.Idx) :
    Host.dotGeneral (F := Ideal) (φ₁ := .f32) (φ₂ := .f32) Cert.ReferenceIdeal.dot_S1024x1024_S1024x1024_S1024x1024_1_0_0_1_n_n none x w p = prodE x w p := by
  have e : p = ix2 (p 0) (p 1) := by
    funext b
    match b with
    | ⟨0, _⟩ => rfl
    | ⟨1, _⟩ => rfl
  refine (congrArg _ e).trans ?_
  refine (Ideal.matmul_plain_apply (φ₁ := .f32) (φ₂ := .f32) (M := 1024) (K := 1024) (N := 1024) none x w (fun _ => (0 : EReal)) (p 0) (p 1)).trans ?_
  exact zero_add _

/-- Plain SiLU's value at an element. -/
theorem silu_value (x w : Whole) (p : Cert.ReferenceIdeal.S1024x1024.Idx) (y : FVec Ideal Cert.ReferenceIdeal.S1024x1024 .f32) (hy : y p = prodE x w p) :
    Host.divf y (addf (broadcastInDim Cert.ReferenceIdeal.S1024x1024 ![] Cert.ReferenceIdeal.Facts₀.bcast_S_S1024x1024 (constant Cert.ReferenceIdeal.S_ .f32 0x3F800000#32))
      (Host.exp (Host.negf y))) p = siluE (prodE x w p) := by
  show Ideal.div (y p) (Ideal.ofBits .f32 0x3F800000#32 + Ideal.exp (-(y p))) = _
  rw [Ideal.ofBits_one_f32, siluE_div, hy]

/-- The reference's value at an element where the mask is set. -/
theorem clip_value (x w : Whole) (p : Cert.ReferenceIdeal.S1024x1024.Idx) (y : FVec Ideal Cert.ReferenceIdeal.S1024x1024 .f32) (hy : y p = prodE x w p)
    (hm : max (prodE x w p) (-prodE x w p) ≤ ((60 : ℝ) : EReal)) :
    Host.divf y (addf (broadcastInDim Cert.ReferenceIdeal.S1024x1024 ![] Cert.ReferenceIdeal.Facts₀.bcast_S_S1024x1024 (constant Cert.ReferenceIdeal.S_ .f32 0x3F800000#32))
      (Host.exp (Host.negf (minimumf (broadcastInDim Cert.ReferenceIdeal.S1024x1024 ![] Cert.ReferenceIdeal.Facts₀.bcast_S_S1024x1024 (id (constant Cert.ReferenceIdeal.S_ .f32 0x42700000#32)))
        (maximumf (broadcastInDim Cert.ReferenceIdeal.S1024x1024 ![] Cert.ReferenceIdeal.Facts₀.bcast_S_S1024x1024 (id (constant Cert.ReferenceIdeal.S_ .f32 0xC2700000#32))) y))))) p
      = siluE (prodE x w p) := by
  show Ideal.div (y p) (Ideal.ofBits .f32 0x3F800000#32
    + Ideal.exp (-(min (Ideal.ofBits .f32 0x42700000#32) (max (Ideal.ofBits .f32 0xC2700000#32) (y p))))) = _
  rw [Ideal.ofBits_one_f32, word_sixty, word_minus_sixty, hy, clip_id _ hm, siluE_div]

/-- Where the mask is set, the product lies within the clip's bounds. -/
theorem mask_le (x w : Whole) (p : Cert.ReferenceIdeal.S1024x1024.Idx) (h : Cert.On_clip_idle.fn (F := Ideal) x w p = 1#1) :
    max (prodE x w p) (-prodE x w p) ≤ ((60 : ℝ) : EReal) := by
  have h2 : Ideal.cmp .ole (max (prodE x w p) (-prodE x w p)) ((60 : ℝ) : EReal) = 1#1 := by
    rw [← word_sixty, ← host_prod]
    exact h
  by_contra hn
  simp [Ideal.cmp, hn] at h2

/-- The kernel's run, its results named. -/
theorem kernel_run (m : (ℓ : Loc KernelIdeal.nD KernelIdeal.τ KernelIdeal.sig) → Buf (Elt Ideal) ℓ) (ρ : Dev KernelIdeal.nD → PrngReg)
    (x w : Whole)
    (h : ∀ c : Dev KernelIdeal.nD, m ((c.tc : Thread KernelIdeal.nD KernelIdeal.τ).loc KernelIdeal.main_arg0) = cutX x c
      ∧ m ((c.tc : Thread KernelIdeal.nD KernelIdeal.τ).loc KernelIdeal.main_arg1) = cutW w c) :
    θ_run (KernelIdeal.defs (F := Ideal)) (onTc (τ := KernelIdeal.τ) (KernelIdeal.main (F := Ideal))) ⟨m, fun _ => 0, ρ⟩ (fun r => ∀ c : Dev KernelIdeal.nD,
      r.2.mem ((c.tc : Thread KernelIdeal.nD KernelIdeal.τ).loc KernelIdeal.main_v1) = (fun p => siluE (prodE x w p))
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)) := by
  have eX : argX (F := Ideal) m ρ = cutX x := funext fun c => (argX_eq m ρ c).trans (h c).1
  have eW : argW (F := Ideal) m ρ = cutW w := funext fun c => (argW_eq m ρ c).trans (h c).2
  have eo (c : Dev KernelIdeal.nD) : finalA (F := Ideal) m ρ c (2 : Fin 3) = fun p => siluE (prodE x w p) := by
    rw [finalA_o, eX, eW]
    exact funext fun p => final_at x w c p
  exact (θ_run Cert.KernelIdeal.defs _ _).mono
    (fun _ h c => ⟨(h.1 c (2 : Fin 3)).trans (eo c), (h.1 c (0 : Fin 3)).trans (finalA_x m ρ c), (h.1 c (1 : Fin 3)).trans (finalA_w m ρ c)⟩)
    (run_main (F := Ideal) m ρ)

/-- The kernel against reference.py, at the elements where its clip is idle. -/
theorem value_reference : Cert.algebraic_KernelIdeal_ReferenceIdeal_on_clip_idle := by
  intro m ρ m' ρ' _ h
  refine ⟨fun p => siluE (prodE (m' (((0 : Dev ReferenceIdeal.nD).tc : Thread _ ReferenceIdeal.τ).loc ReferenceIdeal.main_arg0))
    (m' (((0 : Dev ReferenceIdeal.nD).tc : Thread _ ReferenceIdeal.τ).loc ReferenceIdeal.main_arg1)) p), ?_, ?_⟩
  · exact (θ_run Cert.KernelIdeal.defs _ _).mono (fun _ g c => ⟨fun i _ => congrFun (g c).1 i, (g c).2⟩) (kernel_run m ρ _ _ h)
  · refine (θ_run Cert.ReferenceIdeal.defs _ _).mono (fun _ g => ⟨fun i hi => ?_, (g 0).2⟩) (Cert.ReferenceIdeal.Value.run (F := Ideal) m' ρ')
    exact (congrFun (g 0).1 i).trans (clip_value _ _ i _ (host_prod _ _ i) (mask_le _ _ i hi))

/-- The kernel against plain SiLU, everywhere. -/
theorem value_silu : Cert.algebraic_KernelIdeal_SiluIdeal := by
  intro m ρ m' ρ' _ h
  refine ⟨fun p => siluE (prodE (m' (((0 : Dev SiluIdeal.nD).tc : Thread _ SiluIdeal.τ).loc SiluIdeal.main_arg0))
    (m' (((0 : Dev SiluIdeal.nD).tc : Thread _ SiluIdeal.τ).loc SiluIdeal.main_arg1)) p), ?_, ?_⟩
  · exact kernel_run m ρ _ _ h
  · refine (θ_run Cert.SiluIdeal.defs _ _).mono (fun _ g => ⟨(g 0).1.trans (funext fun i => ?_), (g 0).2⟩) (Cert.SiluIdeal.Value.run (F := Ideal) m' ρ')
    exact silu_value _ _ i _ (host_prod _ _ i)

end Cert.Ring

end
-- ==== Proof.lean ====
module

public import proofs.«01_k».proof.Defs
public import proofs.«01_k».proof.Proof.Frames
public import proofs.«01_k».proof.Proof.Values
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.SiluIdeal.Gen.facts, Cert.Ring.maskFacts,
    Cert.Ring.frame_bits, Cert.Ring.frame_ideal, Cert.Ring.frame_reference, Cert.Ring.frame_silu, trivial,
    Cert.Ring.value_reference, Cert.Ring.value_silu⟩

end Cert.Proof

end
